-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_wrap [hPre_no_wrap : Cert.Pre_no_wrap.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrap [hPre_no_wrap : Cert.Pre_no_wrap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_no_wrap [hKernelIdeal : Cert.KernelIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_no_wrap [hReferenceIdeal : Cert.ReferenceIdeal.Facts] [hPre_no_wrap : Cert.Pre_no_wrap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_no_wrap [hKernelIdeal : Cert.KernelIdeal.Facts] [hReferenceIdeal : Cert.ReferenceIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_13) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_no_wrap : Cert.Pre_no_wrap.Facts),
    quiescent_Kernel (hKernel := hKernel)
    ∧ quiescent_KernelIdeal (hKernelIdeal := hKernelIdeal)
    ∧ quiescent_KernelIdeal_pre_no_wrap (hKernelIdeal := hKernelIdeal) (hPre_no_wrap := hPre_no_wrap)
    ∧ quiescent_ReferenceIdeal (hReferenceIdeal := hReferenceIdeal)
    ∧ quiescent_ReferenceIdeal_pre_no_wrap (hReferenceIdeal := hReferenceIdeal) (hPre_no_wrap := hPre_no_wrap)
    ∧ preserves_Kernel_KernelIdeal
    ∧ algebraic_KernelIdeal_ReferenceIdeal_pre_no_wrap (hKernelIdeal := hKernelIdeal) (hReferenceIdeal := hReferenceIdeal) (hPre_no_wrap := hPre_no_wrap)
-- ==== Pre_no_wrap.lean ====
abbrev S8192x512 : Shape := ⟨2, ![8192, 512]⟩
abbrev S4x16x512 : Shape := ⟨3, ![4, 16, 512]⟩
abbrev S512x16 : Shape := ⟨2, ![512, 16]⟩
abbrev S2048x512 : Shape := ⟨2, ![2048, 512]⟩
abbrev S2048 : Shape := ⟨1, ![2048]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel

variable [Facts]

def fn {F : FTy → Type} [FloatOps F] (main_arg0 : FVec F S8192x512 .f32) (main_arg1 : FVec F S4x16x512 .f32) (main_arg2 : IVec S512x16 32) (main_arg3 : FVec F S2048x512 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) : IVec S_ 1 :=
  let main_c : IVec S_ 32 := constantI S_ 32 2147483649#32
  let main_v0 : IVec S512x16 32 := broadcastInDim S512x16 ![] bcast_S_S512x16 main_c
  let main_v1 : IVec S512x16 1 := cmpi .sgt main_arg2 main_v0
  let main_c_0 : IVec S_ 1 := constantI S_ 1 1#1
  let main_v2 : IVec S_ 1 := (fun x v => Host.reduce IntOp.andi x v reducesTo_S512x16_S_d0_1 h_S_) main_v1 main_c_0
  main_v2
-- ==== Kernel.lean ====
abbrev S8192x512 : Shape := ⟨2, ![8192, 512]⟩
abbrev S4x16x512 : Shape := ⟨3, ![4, 16, 512]⟩
abbrev S512x16 : Shape := ⟨2, ![512, 16]⟩
abbrev S2048x512 : Shape := ⟨2, ![2048, 512]⟩
abbrev S2048 : Shape := ⟨1, ![2048]⟩
abbrev S512x16x512 : Shape := ⟨3, ![512, 16, 512]⟩
abbrev S_ : Shape := ⟨0, ![]⟩
abbrev S520x16x128 : Shape := ⟨3, ![520, 16, 128]⟩
abbrev S512x16x1 : Shape := ⟨3, ![512, 16, 1]⟩
abbrev S512x16x128 : Shape := ⟨3, ![512, 16, 128]⟩
abbrev S1 : Shape := ⟨1, ![1]⟩
abbrev S512x2048 : Shape := ⟨2, ![512, 2048]⟩
abbrev S1x2048 : Shape := ⟨2, ![1, 2048]⟩
abbrev S16x16x512 : Shape := ⟨3, ![16, 16, 512]⟩
abbrev S256x2048 : Shape := ⟨2, ![256, 2048]⟩
abbrev S256x512 : Shape := ⟨2, ![256, 512]⟩
abbrev S16x2048 : Shape := ⟨2, ![16, 2048]⟩
abbrev S1x16x512 : Shape := ⟨3, ![1, 16, 512]⟩
abbrev S16x512 : Shape := ⟨2, ![16, 512]⟩
abbrev S1x16x128 : Shape := ⟨3, ![1, 16, 128]⟩
abbrev S16x128 : Shape := ⟨2, ![16, 128]⟩
abbrev S16x1 : Shape := ⟨2, ![16, 1]⟩

abbrev nBuf : Space → Nat
  | .hbm => 37
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S4x16x512, .f32⟩
  | .hbm, ⟨2, _⟩ => ⟨S512x16, .i32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S512x16x512, .f32⟩
  | .hbm, ⟨12, _⟩ => ⟨S_, .f32⟩
  | .hbm, ⟨13, _⟩ => ⟨S520x16x128, .f32⟩
  | .hbm, ⟨14, _⟩ => ⟨S512x16, .f32⟩
  | .hbm, ⟨15, _⟩ => ⟨S_, .f32⟩
  | .hbm, ⟨16, _⟩ => ⟨S512x16, .f32⟩
  | .hbm, ⟨17, _⟩ => ⟨S512x16, .f32⟩
  | .hbm, ⟨18, _⟩ => ⟨S512x16x1, .f32⟩
  | .hbm, ⟨19, _⟩ => ⟨S512x16x128, .f32⟩
  | .hbm, ⟨20, _⟩ => ⟨S_, .i32⟩
  | .hbm, ⟨21, _⟩ => ⟨S1, .i32⟩
  | .hbm, ⟨22, _⟩ => ⟨S520x16x128, .f32⟩
  | .hbm, ⟨23, _⟩ => ⟨S512x2048, .f32⟩
  | .hbm, ⟨24, _⟩ => ⟨S512x2048, .bf16⟩
  | .hbm, ⟨25, _⟩ => ⟨S512x2048, .f32⟩
  | .hbm, ⟨26, _⟩ => ⟨S512x2048, .bf16⟩
  | .hbm, ⟨27, _⟩ => ⟨S512x2048, .f32⟩
  | .hbm, ⟨28, _⟩ => ⟨S512x2048, .bf16⟩
  | .hbm, ⟨29, _⟩ => ⟨S512x2048, .f32⟩
  | .hbm, ⟨30, _⟩ => ⟨S512x2048, .bf16⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S512x16x512, .f32⟩
  | .hbm, ⟨36, _⟩ => ⟨S4x16x512, .f32⟩
  | .local _ .vmem, ⟨0, _⟩ => ⟨S16x16x512, .f32⟩
  | .local _ .vmem, ⟨1, _⟩ => ⟨S16x16x512, .f32⟩
  | .local _ .vmem, ⟨2, _⟩ => ⟨S520x16x128, .f32⟩
  | .local _ .vmem, ⟨3, _⟩ => ⟨S4x16x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S16x16x512, .f32⟩
  | .local _ .vmem, ⟨11, _⟩ => ⟨S16x16x512, .f32⟩
  | .local _ .vmem, ⟨12, _⟩ => ⟨S4x16x512, .f32⟩
  | .local _ .vmem, ⟨13, _⟩ => ⟨S256x2048, .f32⟩
  | .local _ .vmem, ⟨14, _⟩ => ⟨S256x2048, .f32⟩
  | .local _ .vmem, ⟨15, _⟩ => ⟨S256x512, .bf16⟩
  | .local _ .vmem, ⟨16, _⟩ => ⟨S16x2048, .f32⟩
  | .local _ .vmem, ⟨17, _⟩ => ⟨S16x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨1, ![33], ![false]⟩

def k0_off1 (i : grid0.Coords) (c0_i32_31 : BitVec 32) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.muli v0 c16_i32
  let v44 : BitVec 32 := Scalar.addi v1 c0_i32_31
  let v45 : Index := Scalar.indexCast v44
  let c0_32 : Index := 0#32
  let c0_33 : Index := 0#32
  ![v45.toNat, 0, 0]
def k0_off2 (c0_i32_31 : BitVec 32) : Fin 2 → Nat :=
  let c16_i32_34 : BitVec 32 := 16#32
  let v52 : BitVec 32 := Scalar.muli c0_i32_31 c16_i32_34
  let v53 : Index := Scalar.indexCast v52
  let c0_35 : Index := 0#32
  ![v53.toNat, 0]
def k0_off3 (c0_i32_31 : BitVec 32) : Fin 2 → Nat :=
  let c16_i32_38 : BitVec 32 := 16#32
  let v71 : BitVec 32 := Scalar.muli c0_i32_31 c16_i32_38
  let v72 : Index := Scalar.indexCast v71
  let c0_39 : Index := 0#32
  ![v72.toNat, 0]
def k0_off4 (i : grid0.Coords) (c0_i32_31 : BitVec 32) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.muli v0 c16_i32
  let v76 : BitVec 32 := Scalar.addi v1 c0_i32_31
  let c1_i32_40 : BitVec 32 := 1#32
  let v77 : BitVec 32 := Scalar.addi v76 c1_i32_40
  let v78 : Index := Scalar.indexCast v77
  let c0_41 : Index := 0#32
  let c0_42 : Index := 0#32
  ![v78.toNat, 0, 0]
def k0_off5 (i : grid0.Coords) (c0_i32_31 : BitVec 32) : Fin 3 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let c16_i32_0 : BitVec 32 := 16#32
  let v4 : BitVec 32 := Scalar.muli v3 c16_i32_0
  let v92 : BitVec 32 := Scalar.addi v4 c0_i32_31
  let v93 : Index := Scalar.indexCast v92
  let c0_48 : Index := 0#32
  let c0_49 : Index := 0#32
  ![v93.toNat, 0, 0]
def k0_off6 (i : grid0.Coords) (c0_i32_31 : BitVec 32) : Fin 3 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let c16_i32_0 : BitVec 32 := 16#32
  let v4 : BitVec 32 := Scalar.muli v3 c16_i32_0
  let v118 : BitVec 32 := Scalar.addi v4 c0_i32_31
  let c1_i32_54 : BitVec 32 := 1#32
  let v119 : BitVec 32 := Scalar.addi v118 c1_i32_54
  let v120 : Index := Scalar.indexCast v119
  let c0_55 : Index := 0#32
  let c0_56 : Index := 0#32
  ![v120.toNat, 0, 0]
def k0_cond1 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32 : BitVec 32 := 32#32
  let v1532 : BitVec 1 := Scalar.cmpi .slt arg0 c32_i32
  let v1533 : BitVec 32 := Scalar.extui v1532
  let c0_i32_546 : BitVec 32 := 0#32
  let v1534 : BitVec 1 := Scalar.cmpi .ne v1533 c0_i32_546
  v1534

def k0_cond4 (i : grid0.Coords) : BitVec 1 :=
  let arg0 : BitVec 32 := BitVec.ofNat 32 (i 0).val
  let c0_i32_547 : BitVec 32 := 0#32
  let v1535 : BitVec 1 := Scalar.cmpi .sgt arg0 c0_i32_547
  let v1536 : BitVec 32 := Scalar.extui v1535
  let c0_i32_548 : BitVec 32 := 0#32
  let v1537 : BitVec 1 := Scalar.cmpi .ne v1536 c0_i32_548
  v1537

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S520x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x512 : Shape := ⟨2, ![8192, 512]⟩
abbrev S4x16x512 : Shape := ⟨3, ![4, 16, 512]⟩
abbrev S512x16 : Shape := ⟨2, ![512, 16]⟩
abbrev S2048x512 : Shape := ⟨2, ![2048, 512]⟩
abbrev S2048 : Shape := ⟨1, ![2048]⟩
abbrev S512x16x512 : Shape := ⟨3, ![512, 16, 512]⟩
abbrev S_ : Shape := ⟨0, ![]⟩
abbrev S512x16x1 : Shape := ⟨3, ![512, 16, 1]⟩
abbrev S2x16x512 : Shape := ⟨3, ![2, 16, 512]⟩
abbrev S1x16x512 : Shape := ⟨3, ![1, 16, 512]⟩
abbrev S16x512 : Shape := ⟨2, ![16, 512]⟩
abbrev S1x16x1 : Shape := ⟨3, ![1, 16, 1]⟩
abbrev S16x1 : Shape := ⟨2, ![16, 1]⟩
abbrev S512x2048 : Shape := ⟨2, ![512, 2048]⟩
abbrev S16x2048 : Shape := ⟨2, ![16, 2048]⟩
abbrev S1x2048 : Shape := ⟨2, ![1, 2048]⟩

abbrev nBuf : Space → Nat
  | .hbm => 165
  | .vmem => 0
  | .smem => 0
  | _ => 0

abbrev hbmTy0_0 (i : Nat) : BufTy := match i % 128 with
  | 0 => ⟨S8192x512, .f32⟩
  | 1 => ⟨S4x16x512, .f32⟩
  | 2 => ⟨S512x16, .i32⟩
  | 3 => ⟨S2048x512, .f32⟩
  | 4 => ⟨S2048x512, .f32⟩
  | 5 => ⟨S2048, .f32⟩
  | 6 => ⟨S2048, .f32⟩
  | 7 => ⟨S2048x512, .f32⟩
  | 8 => ⟨S2048x512, .f32⟩
  | 9 => ⟨S2048, .f32⟩
  | 10 => ⟨S2048, .f32⟩
  | 11 => ⟨S512x16x512, .f32⟩
  | 12 => ⟨S_, .i32⟩
  | 13 => ⟨S512x16, .i32⟩
  | 14 => ⟨S512x16, .i32⟩
  | 15 => ⟨S512x16, .f32⟩
  | 16 => ⟨S512x16x1, .f32⟩
  | 17 => ⟨S2x16x512, .f32⟩
  | 18 => ⟨S2x16x512, .f32⟩
  | 19 => ⟨S_, .f32⟩
  | 20 => ⟨S512x16x512, .f32⟩
  | 21 => ⟨S_, .i32⟩
  | 22 => ⟨S512x16x512, .f32⟩
  | 23 => ⟨S512x16x1, .f32⟩
  | 24 => ⟨S2048x512, .f32⟩
  | 25 => ⟨S2048, .f32⟩
  | 26 => ⟨S2048x512, .f32⟩
  | 27 => ⟨S2048, .f32⟩
  | 28 => ⟨S2048x512, .f32⟩
  | 29 => ⟨S2048, .f32⟩
  | 30 => ⟨S2048x512, .f32⟩
  | 31 => ⟨S2048, .f32⟩
  | 32 => ⟨S_, .i32⟩
  | 33 => ⟨S2x16x512, .f32⟩
  | 34 => ⟨S2x16x512, .f32⟩
  | 35 => ⟨S512x16x512, .f32⟩
  | 36 => ⟨S_, .i32⟩
  | 37 => ⟨S_, .i1⟩
  | 38 => ⟨S_, .i32⟩
  | 39 => ⟨S_, .i32⟩
  | 40 => ⟨S1x16x512, .f32⟩
  | 41 => ⟨S16x512, .f32⟩
  | 42 => ⟨S_, .i32⟩
  | 43 => ⟨S_, .i32⟩
  | 44 => ⟨S1x16x1, .f32⟩
  | 45 => ⟨S16x1, .f32⟩
  | 46 => ⟨S1x16x512, .f32⟩
  | 47 => ⟨S16x512, .f32⟩
  | 48 => ⟨S16x512, .f32⟩
  | 49 => ⟨S16x512, .f32⟩
  | 50 => ⟨S1x16x512, .f32⟩
  | 51 => ⟨S16x512, .f32⟩
  | 52 => ⟨S16x512, .f32⟩
  | 53 => ⟨S16x512, .f32⟩
  | 54 => ⟨S512x2048, .f32⟩
  | 55 => ⟨S16x2048, .f32⟩
  | 56 => ⟨S1x2048, .f32⟩
  | 57 => ⟨S16x2048, .f32⟩
  | 58 => ⟨S16x2048, .f32⟩
  | 59 => ⟨S512x2048, .f32⟩
  | 60 => ⟨S16x2048, .f32⟩
  | 61 => ⟨S16x2048, .f32⟩
  | 62 => ⟨S1x2048, .f32⟩
  | 63 => ⟨S16x2048, .f32⟩
  | 64 => ⟨S16x2048, .f32⟩
  | 65 => ⟨S16x512, .f32⟩
  | 66 => ⟨S16x512, .f32⟩
  | 67 => ⟨S16x512, .f32⟩
  | 68 => ⟨S16x512, .f32⟩
  | 69 => ⟨S16x512, .f32⟩
  | 70 => ⟨S16x512, .f32⟩
  | 71 => ⟨S_, .f32⟩
  | 72 => ⟨S16x512, .f32⟩
  | 73 => ⟨S16x512, .f32⟩
  | 74 => ⟨S_, .f32⟩
  | 75 => ⟨S16x512, .f32⟩
  | 76 => ⟨S16x512, .f32⟩
  | 77 => ⟨S16x512, .f32⟩
  | 78 => ⟨S16x512, .f32⟩
  | 79 => ⟨S_, .f32⟩
  | 80 => ⟨S16x512, .f32⟩
  | 81 => ⟨S16x512, .f32⟩
  | 82 => ⟨S_, .f32⟩
  | 83 => ⟨S16x512, .f32⟩
  | 84 => ⟨S16x512, .f32⟩
  | 85 => ⟨S16x512, .f32⟩
  | 86 => ⟨S16x512, .f32⟩
  | 87 => ⟨S16x512, .f32⟩
  | 88 => ⟨S_, .f32⟩
  | 89 => ⟨S16x512, .f32⟩
  | 90 => ⟨S16x512, .f32⟩
  | 91 => ⟨S_, .f32⟩
  | 92 => ⟨S16x512, .f32⟩
  | 93 => ⟨S16x512, .f32⟩
  | 94 => ⟨S16x512, .f32⟩
  | 95 => ⟨S16x512, .f32⟩
  | 96 => ⟨S16x512, .f32⟩
  | 97 => ⟨S16x512, .f32⟩
  | 98 => ⟨S16x512, .f32⟩
  | 99 => ⟨S1x16x512, .f32⟩
  | 100 => ⟨S16x512, .f32⟩
  | 101 => ⟨S16x512, .f32⟩
  | 102 => ⟨S16x512, .f32⟩
  | 103 => ⟨S1x16x512, .f32⟩
  | 104 => ⟨S16x512, .f32⟩
  | 105 => ⟨S16x512, .f32⟩
  | 106 => ⟨S16x512, .f32⟩
  | 107 => ⟨S512x2048, .f32⟩
  | 108 => ⟨S16x2048, .f32⟩
  | 109 => ⟨S1x2048, .f32⟩
  | 110 => ⟨S16x2048, .f32⟩
  | 111 => ⟨S16x2048, .f32⟩
  | 112 => ⟨S512x2048, .f32⟩
  | 113 => ⟨S16x2048, .f32⟩
  | 114 => ⟨S16x2048, .f32⟩
  | 115 => ⟨S1x2048, .f32⟩
  | 116 => ⟨S16x2048, .f32⟩
  | 117 => ⟨S16x2048, .f32⟩
  | 118 => ⟨S16x512, .f32⟩
  | 119 => ⟨S16x512, .f32⟩
  | 120 => ⟨S16x512, .f32⟩
  | 121 => ⟨S16x512, .f32⟩
  | 122 => ⟨S16x512, .f32⟩
  | 123 => ⟨S16x512, .f32⟩
  | 124 => ⟨S_, .f32⟩
  | 125 => ⟨S16x512, .f32⟩
  | 126 => ⟨S16x512, .f32⟩
  | 127 => ⟨S_, .f32⟩
  | _ => ⟨S8192x512, .f32⟩

abbrev hbmTy0_1 (i : Nat) : BufTy := match i % 128 with
  | 0 => ⟨S16x512, .f32⟩
  | 1 => ⟨S16x512, .f32⟩
  | 2 => ⟨S16x512, .f32⟩
  | 3 => ⟨S16x512, .f32⟩
  | 4 => ⟨S_, .f32⟩
  | 5 => ⟨S16x512, .f32⟩
  | 6 => ⟨S16x512, .f32⟩
  | 7 => ⟨S_, .f32⟩
  | 8 => ⟨S16x512, .f32⟩
  | 9 => ⟨S16x512, .f32⟩
  | 10 => ⟨S16x512, .f32⟩
  | 11 => ⟨S16x512, .f32⟩
  | 12 => ⟨S16x512, .f32⟩
  | 13 => ⟨S_, .f32⟩
  | 14 => ⟨S16x512, .f32⟩
  | 15 => ⟨S16x512, .f32⟩
  | 16 => ⟨S_, .f32⟩
  | 17 => ⟨S16x512, .f32⟩
  | 18 => ⟨S16x512, .f32⟩
  | 19 => ⟨S16x512, .f32⟩
  | 20 => ⟨S16x512, .f32⟩
  | 21 => ⟨S16x512, .f32⟩
  | 22 => ⟨S16x512, .f32⟩
  | 23 => ⟨S16x512, .f32⟩
  | 24 => ⟨S1x16x512, .f32⟩
  | 25 => ⟨S1x16x512, .f32⟩
  | 26 => ⟨S2x16x512, .f32⟩
  | 27 => ⟨S1x16x512, .f32⟩
  | 28 => ⟨S1x16x512, .f32⟩
  | 29 => ⟨S2x16x512, .f32⟩
  | 30 => ⟨S1x16x512, .f32⟩
  | 31 => ⟨S_, .i32⟩
  | 32 => ⟨S_, .i32⟩
  | 33 => ⟨S512x16x512, .f32⟩
  | 34 => ⟨S_, .i32⟩
  | 35 => ⟨S_, .i32⟩
  | 36 => ⟨S4x16x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c_0 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev main_v8_8 : Ref sig .tc := ⟨.hbm, 30, rfl⟩
abbrev main_v8_9 : Ref sig .tc := ⟨.hbm, 31, rfl⟩
abbrev main_v8_10 : Ref sig .tc := ⟨.hbm, 32, rfl⟩
abbrev main_v8_11 : Ref sig .tc := ⟨.hbm, 33, rfl⟩
abbrev main_v8_12 : Ref sig .tc := ⟨.hbm, 34, rfl⟩
abbrev main_v8_13 : Ref sig .tc := ⟨.hbm, 35, rfl⟩
abbrev main_while0c_c_14 : Ref sig .tc := ⟨.hbm, 36, rfl⟩
abbrev main_while0c_v10 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v10 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v11 : Ref sig .tc := ⟨.hbm, 45, rfl⟩
abbrev main_while0b_v12 : Ref sig .tc := ⟨.hbm, 46, rfl⟩
abbrev main_while0b_v13 : Ref sig .tc := ⟨.hbm, 47, rfl⟩
abbrev main_while0b_v14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_v20 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_cst_14 : Ref sig .tc := ⟨.hbm, 71, rfl⟩
abbrev main_while0b_v37 : Ref sig .tc := ⟨.hbm, 72, rfl⟩
abbrev main_while0b_v38 : Ref sig .tc := ⟨.hbm, 73, rfl⟩
abbrev main_while0b_cst_15 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_cst_16 : Ref sig .tc := ⟨.hbm, 79, rfl⟩
abbrev main_while0b_v43 : Ref sig .tc := ⟨.hbm, 80, rfl⟩
abbrev main_while0b_v44 : Ref sig .tc := ⟨.hbm, 81, rfl⟩
abbrev main_while0b_cst_17 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_cst_18 : Ref sig .tc := ⟨.hbm, 88, rfl⟩
abbrev main_while0b_v50 : Ref sig .tc := ⟨.hbm, 89, rfl⟩
abbrev main_while0b_v51 : Ref sig .tc := ⟨.hbm, 90, rfl⟩
abbrev main_while0b_cst_19 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_v81 : Ref sig .tc := ⟨.hbm, 121, rfl⟩
abbrev main_while0b_v82 : Ref sig .tc := ⟨.hbm, 122, rfl⟩
abbrev main_while0b_v83 : Ref sig .tc := ⟨.hbm, 123, rfl⟩
abbrev main_while0b_cst_20 : Ref sig .tc := ⟨.hbm, 124, rfl⟩
abbrev main_while0b_v84 : Ref sig .tc := ⟨.hbm, 125, rfl⟩
abbrev main_while0b_v85 : Ref sig .tc := ⟨.hbm, 126, rfl⟩
abbrev main_while0b_cst_21 : Ref sig .tc := ⟨.hbm, 127, rfl⟩
abbrev main_while0b_v86 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_cst_22 : Ref sig .tc := ⟨.hbm, 132, rfl⟩
abbrev main_while0b_v90 : Ref sig .tc := ⟨.hbm, 133, rfl⟩
abbrev main_while0b_v91 : Ref sig .tc := ⟨.hbm, 134, rfl⟩
abbrev main_while0b_cst_23 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_cst_24 : Ref sig .tc := ⟨.hbm, 141, rfl⟩
abbrev main_while0b_v97 : Ref sig .tc := ⟨.hbm, 142, rfl⟩
abbrev main_while0b_v98 : Ref sig .tc := ⟨.hbm, 143, rfl⟩
abbrev main_while0b_cst_25 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_call2_v0 : Ref sig .tc := ⟨.hbm, 158, rfl⟩
abbrev main_while0b_call2_c : Ref sig .tc := ⟨.hbm, 159, rfl⟩
abbrev main_while0b_call2_c_0 : Ref sig .tc := ⟨.hbm, 160, rfl⟩
abbrev main_while0b_v112 : Ref sig .tc := ⟨.hbm, 161, rfl⟩
abbrev main_while0b_c_26 : Ref sig .tc := ⟨.hbm, 162, rfl⟩
abbrev main_while0b_v113 : Ref sig .tc := ⟨.hbm, 163, rfl⟩
abbrev main_v9 : Ref sig .tc := ⟨.hbm, 164, rfl⟩

abbrev nD : Nat := 1
abbrev τ : Topo := Topo.v7x

variable {F : FTy → Type} [FloatOps F]

abbrev main_while0_count : Scf.Loop 32 := ⟨0#32, 512#32, 1#32⟩
-- ==== Proof.KI.Body.lean ====
/- The body of the kernel, written as what it is: a prefix (the two initialisations, the two projections of a
   chunk), sixteen times one and the same step, and the write-back of the states. Both are the same sequence of
   memory operations, so that they are equal is checked by unfolding. -/
module

public import proofs.«01_k».proof.Proof.Gen.KernelIdeal.Frame
public import proofs.«01_k».proof.Proof.Gen.KernelIdeal.Skeleton

@[expose] public section

set_option maxRecDepth 65536

noncomputable section

namespace Cert.KernelIdeal.Hand

open Idealize.ShloMosaic Idealize.SL.Sem Cert.KernelIdeal Cert.KernelIdeal.Gen

variable {F : FTy → Type} [FloatOps F]

/-- The mask's row for one time step, spread over a state's lanes. -/
def mrow (m : Vec F S1x16x128 .f32) : FVec F S16x512 .f32 :=
  broadcastTo S16x512 (extractStridedSlice S16x1 ![0, 0] (shapeCast S16x128 (shapeCast S1x16x128 m shapeCasts_S1x16x128_S1x16x128) shapeCasts_S1x16x128_S16x128) slices_S16x128_o0_0_S16x1) broadcasts_S16x1_S16x512

/-- The cell state of one step from the gates' sums and the cell state it starts from. -/
def cellC (g : FVec F S16x2048 .f32) (c : FVec F S16x512 .f32) : FVec F S16x512 .f32 :=
  addf (mulf (logistic (extractStridedSlice S16x512 ![0, 512] g slices_S16x2048_o0_512_S16x512)) c)
    (mulf (logistic (extractStridedSlice S16x512 ![0, 0] g slices_S16x2048_o0_0_S16x512))
      (tanh (extractStridedSlice S16x512 ![0, 1024] g slices_S16x2048_o0_1024_S16x512)))

/-- The hidden state of one step from the gates' sums and the new cell state. -/
def cellH (g : FVec F S16x2048 .f32) (c : FVec F S16x512 .f32) : FVec F S16x512 .f32 :=
  mulf (logistic (extractStridedSlice S16x512 ![0, 1536] g slices_S16x2048_o0_1536_S16x512)) (tanh c)

/-- A hidden state, masked, through the recurrent weights. -/
def proj (h : FVec F S16x512 .f32) (m : Vec F S1x16x128 .f32) (w : Vec F S512x2048 .bf16) : FVec F S16x2048 .f32 :=
  shapeCast S16x2048 (matmul dot_S16x512_S512x2048_S16x2048_1_0_0_1_n_n none (truncf .bf16 (mulf h (mrow m)) bitsLt_bf16_f32)
    (shapeCast S512x2048 w shapeCasts_S512x2048_S512x2048) (constant S16x2048 .f32 0x00000000#32)) shapeCasts_S16x2048_S16x2048

/-- A hidden state as the next layer's input row. -/
def packH (h : FVec F S16x512 .f32) : FVec F S16x512 .bf16 :=
  shapeCast S16x512 (truncf .bf16 h bitsLt_bf16_f32) shapeCasts_S16x512_S16x512

/-- A chunk's input through the first layer's input weights, -/
def matG0 (x : Vec F S16x16x512 .f32) (w : Vec F S512x2048 .bf16) : FVec F S256x2048 .f32 :=
  matmul dot_S256x512_S512x2048_S256x2048_1_0_0_1_n_n none (truncf .bf16 (shapeCast S256x512 (shapeCast S16x16x512 x shapeCasts_S16x16x512_S16x16x512) shapeCasts_S16x16x512_S256x512) bitsLt_bf16_f32) (shapeCast S512x2048 w shapeCasts_S512x2048_S512x2048) (constant S256x2048 .f32 0x00000000#32)

/-- a projection and its bias, -/
def addG0 (y : FVec F S256x2048 .f32) (b : Vec F S1x2048 .f32) : FVec F S256x2048 .f32 :=
  shapeCast S256x2048 (addf y (broadcastTo S256x2048 (shapeCast S1x2048 b shapeCasts_S1x2048_S1x2048) broadcasts_S1x2048_S256x2048)) shapeCasts_S256x2048_S256x2048

/-- and the second layer's input projection of a chunk. -/
def preG1 (x : Vec F S256x512 .bf16) (w : Vec F S512x2048 .bf16) (b : Vec F S1x2048 .f32) : FVec F S256x2048 .f32 :=
  shapeCast S256x2048 (addf (matmul dot_S256x512_S512x2048_S256x2048_1_0_0_1_n_n none x (shapeCast S512x2048 w shapeCasts_S512x2048_S512x2048) (constant S256x2048 .f32 0x00000000#32))
    (broadcastTo S256x2048 (shapeCast S1x2048 b shapeCasts_S1x2048_S1x2048) broadcasts_S1x2048_S256x2048)) shapeCasts_S256x2048_S256x2048

theorem rowInb (k : Fin 16) : ∀ a, (![k.val, 0, 0] : Fin 3 → Nat) a + S1x16x512.size a ≤ S16x16x512.size a := by
  revert k; decide +kernel

variable (i : grid0.Coords)
variable (arg1 : Memref sig .tc .vmem S16x16x512 .f32) (harg1 : arg1.IsWhole)
variable (arg2 : Memref sig .tc .vmem S520x16x128 .f32) (harg2 : arg2.IsWhole)
variable (arg3 : Memref sig .tc .vmem S4x16x512 .f32) (harg3 : arg3.IsWhole)
variable (arg4 : Memref sig .tc .vmem S512x2048 .bf16) (harg4 : arg4.IsWhole)
variable (arg5 : Memref sig .tc .vmem S512x2048 .bf16) (harg5 : arg5.IsWhole)
variable (arg6 : Memref sig .tc .vmem S512x2048 .bf16) (harg6 : arg6.IsWhole)
variable (arg7 : Memref sig .tc .vmem S512x2048 .bf16) (harg7 : arg7.IsWhole)
variable (arg8 : Memref sig .tc .vmem S1x2048 .f32) (harg8 : arg8.IsWhole)
variable (arg9 : Memref sig .tc .vmem S1x2048 .f32) (harg9 : arg9.IsWhole)
variable (arg10 : Memref sig .tc .vmem S16x16x512 .f32) (harg10 : arg10.IsWhole)
variable (arg11 : Memref sig .tc .vmem S4x16x512 .f32) (harg11 : arg11.IsWhole)
variable (arg12 : Memref sig .tc .vmem S256x2048 .f32) (harg12 : arg12.IsWhole)
variable (arg13 : Memref sig .tc .vmem S256x2048 .f32) (harg13 : arg13.IsWhole)
variable (arg14 : Memref sig .tc .vmem S256x512 .bf16) (harg14 : arg14.IsWhole)
variable (arg15 : Memref sig .tc .vmem S16x2048 .f32) (harg15 : arg15.IsWhole)
variable (arg16 : Memref sig .tc .vmem S16x2048 .f32) (harg16 : arg16.IsWhole)

/-- The first point's initialisation: the states and the first layer's first recurrent term. -/
def init0P : Prog (TpuEff nD τ sig (Elt F) Λ₀ .tc) PUnit := do
  let s : Vec F S4x16x512 .f32 ← Prog.lift (.load arg3 (Rect.unit (s := S4x16x512) ![0, 0, 0] S4x16x512.size inb_S4x16x512_S4x16x512_0_0_0).toLoadRect (View.loadsAt_vmem h_S4x16x512))
  let _d : Vec F S4x16x512 .f32 ← Prog.lift (.load arg11 (Rect.unit (s := S4x16x512) ![0, 0, 0] S4x16x512.size inb_S4x16x512_S4x16x512_0_0_0).toLoadRect (View.loadsAt_vmem h_S4x16x512))
  Prog.lift (.store arg11 (Rect.unit (s := S4x16x512) ![0, 0, 0] S4x16x512.size inb_S4x16x512_S4x16x512_0_0_0) (s) Finset.univ (View.stores_vmem_bits_univ h_S4x16x512 rfl) (.inl rfl))
  let h : Vec F S1x16x512 .f32 ← Prog.lift (.load arg3 (Rect.unit (s := S4x16x512) ![0, 0, 0] S1x16x512.size inb_S4x16x512_S1x16x512_0_0_0).toLoadRect (View.loadsAt_vmem h_S1x16x512))
  let m : Vec F S1x16x128 .f32 ← Prog.lift (.load arg2 (Rect.unit (s := S520x16x128) ![0, 0, 0] S1x16x128.size inb_S520x16x128_S1x16x128_0_0_0).toLoadRect (View.loadsAt_vmem h_S1x16x128))
  let w : Vec F S512x2048 .bf16 ← Prog.lift (.load arg5 (Rect.unit (s := S512x2048) ![0, 0] S512x2048.size inb_S512x2048_S512x2048_0_0).toLoadRect (View.loadsAt_vmem h_S512x2048))
  let _d : Vec F S16x2048 .f32 ← Prog.lift (.load arg15 (Rect.unit (s := S16x2048) ![0, 0] S16x2048.size inb_S16x2048_S16x2048_0_0).toLoadRect (View.loadsAt_vmem h_S16x2048))
  Prog.lift (.store arg15 (Rect.unit (s := S16x2048) ![0, 0] S16x2048.size inb_S16x2048_S16x2048_0_0) (proj (shapeCast S16x512 h shapeCasts_S1x16x512_S16x512) m w) Finset.univ (View.stores_vmem_bits_univ h_S16x2048 rfl) (.inl rfl))
  pure ⟨⟩

/-- The second point's initialisation: the second layer's first recurrent term. -/
def init1P : Prog (TpuEff nD τ sig (Elt F) Λ₀ .tc) PUnit := do
  let h : Vec F S1x16x512 .f32 ← Prog.lift (.load arg11 (Rect.unit (s := S4x16x512) ![1, 0, 0] S1x16x512.size inb_S4x16x512_S1x16x512_1_0_0).toLoadRect (View.loadsAt_vmem h_S1x16x512))
  let m : Vec F S1x16x128 .f32 ← Prog.lift (.load arg2 (Rect.unit (s := S520x16x128) ![0, 0, 0] S1x16x128.size inb_S520x16x128_S1x16x128_0_0_0).toLoadRect (View.loadsAt_vmem h_S1x16x128))
  let w : Vec F S512x2048 .bf16 ← Prog.lift (.load arg7 (Rect.unit (s := S512x2048) ![0, 0] S512x2048.size inb_S512x2048_S512x2048_0_0).toLoadRect (View.loadsAt_vmem h_S512x2048))
  let _d : Vec F S16x2048 .f32 ← Prog.lift (.load arg16 (Rect.unit (s := S16x2048) ![0, 0] S16x2048.size inb_S16x2048_S16x2048_0_0).toLoadRect (View.loadsAt_vmem h_S16x2048))
  Prog.lift (.store arg16 (Rect.unit (s := S16x2048) ![0, 0] S16x2048.size inb_S16x2048_S16x2048_0_0) (proj (shapeCast S16x512 h shapeCasts_S1x16x512_S16x512) m w) Finset.univ (View.stores_vmem_bits_univ h_S16x2048 rfl) (.inl rfl))
  pure ⟨⟩

/-- The second layer's projection of a chunk, and the operands of the first layer's. -/
def preP : Prog (TpuEff nD τ sig (Elt F) Λ₀ .tc) (Σ' (arg0 : BitVec 32) (v1 : BitVec 32) (v4 : BitVec 32) (v28 : FVec F S256x2048 .f32), Vec F S1x2048 .f32) := do
  let hs : Vec F S256x512 .bf16 ← Prog.lift (.load arg14 (Rect.unit (s := S256x512) ![0, 0] S256x512.size inb_S256x512_S256x512_0_0).toLoadRect (View.loadsAt_vmem h_S256x512))
  let wi : Vec F S512x2048 .bf16 ← Prog.lift (.load arg6 (Rect.unit (s := S512x2048) ![0, 0] S512x2048.size inb_S512x2048_S512x2048_0_0).toLoadRect (View.loadsAt_vmem h_S512x2048))
  let bi : Vec F S1x2048 .f32 ← Prog.lift (.load arg9 (Rect.unit (s := S1x2048) ![0, 0] S1x2048.size inb_S1x2048_S1x2048_0_0).toLoadRect (View.loadsAt_vmem h_S1x2048))
  let _d : Vec F S256x2048 .f32 ← Prog.lift (.load arg13 (Rect.unit (s := S256x2048) ![0, 0] S256x2048.size inb_S256x2048_S256x2048_0_0).toLoadRect (View.loadsAt_vmem h_S256x2048))
  Prog.lift (.store arg13 (Rect.unit (s := S256x2048) ![0, 0] S256x2048.size inb_S256x2048_S256x2048_0_0) (preG1 hs wi bi) Finset.univ (View.stores_vmem_bits_univ h_S256x2048 rfl) (.inl rfl))
  let x : Vec F S16x16x512 .f32 ← Prog.lift (.load arg1 (Rect.unit (s := S16x16x512) ![0, 0, 0] S16x16x512.size inb_S16x16x512_S16x16x512_0_0_0).toLoadRect (View.loadsAt_vmem h_S16x16x512))
  let wx : Vec F S512x2048 .bf16 ← Prog.lift (.load arg4 (Rect.unit (s := S512x2048) ![0, 0] S512x2048.size inb_S512x2048_S512x2048_0_0).toLoadRect (View.loadsAt_vmem h_S512x2048))
  let bx : Vec F S1x2048 .f32 ← Prog.lift (.load arg8 (Rect.unit (s := S1x2048) ![0, 0] S1x2048.size inb_S1x2048_S1x2048_0_0).toLoadRect (View.loadsAt_vmem h_S1x2048))
  pure ⟨BitVec.ofNat 32 (i 0).val, Scalar.muli (Scalar.minsi (BitVec.ofNat 32 (i 0).val) 31#32) 16#32, Scalar.muli (Scalar.maxsi (Scalar.subi (BitVec.ofNat 32 (i 0).val) 1#32) 0#32) 16#32, matG0 x wx, bx⟩

/-- The condition of the second point's initialisation. -/
def cond2 : BitVec 1 := Scalar.cmpi .ne (Scalar.extui (Scalar.cmpi .eq (BitVec.ofNat 32 (i 0).val) 1#32) : BitVec 32) 0#32

/-- The two initialisations and the second layer's projection. -/
def headP : Prog (TpuEff nD τ sig (Elt F) Λ₀ .tc) (Σ' (arg0 : BitVec 32) (v1 : BitVec 32) (v4 : BitVec 32) (v28 : FVec F S256x2048 .f32), Vec F S1x2048 .f32) := do
  if _ : k0_cond1 i = 1#1 then init0P arg2 arg3 arg5 arg11 arg15 else pure ⟨⟩
  if _ : cond2 i = 1#1 then init1P arg2 arg7 arg11 arg16 else pure ⟨⟩
  preP i arg1 arg4 arg6 arg8 arg9 arg13 arg14

/-- The first layer's projection of a chunk, and the cell states it starts from. -/
def pre2P (v28 : FVec F S256x2048 .f32) (v29 : Vec F S1x2048 .f32) : Prog (TpuEff nD τ sig (Elt F) Λ₀ .tc) (FVec F S16x512 .f32 × FVec F S16x512 .f32) := do
  let _d : Vec F S256x2048 .f32 ← Prog.lift (.load arg12 (Rect.unit (s := S256x2048) ![0, 0] S256x2048.size inb_S256x2048_S256x2048_0_0).toLoadRect (View.loadsAt_vmem h_S256x2048))
  Prog.lift (.store arg12 (Rect.unit (s := S256x2048) ![0, 0] S256x2048.size inb_S256x2048_S256x2048_0_0) (addG0 v28 v29) Finset.univ (View.stores_vmem_bits_univ h_S256x2048 rfl) (.inl rfl))
  let _d : Vec F S1x16x512 .f32 ← Prog.lift (.load arg11 (Rect.unit (s := S4x16x512) ![0, 0, 0] S1x16x512.size inb_S4x16x512_S1x16x512_0_0_0).toLoadRect (View.loadsAt_vmem h_S1x16x512))
  let c0 : Vec F S1x16x512 .f32 ← Prog.lift (.load arg11 (Rect.unit (s := S4x16x512) ![2, 0, 0] S1x16x512.size inb_S4x16x512_S1x16x512_2_0_0).toLoadRect (View.loadsAt_vmem h_S1x16x512))
  let _d : Vec F S1x16x512 .f32 ← Prog.lift (.load arg11 (Rect.unit (s := S4x16x512) ![1, 0, 0] S1x16x512.size inb_S4x16x512_S1x16x512_1_0_0).toLoadRect (View.loadsAt_vmem h_S1x16x512))
  let c1 : Vec F S1x16x512 .f32 ← Prog.lift (.load arg11 (Rect.unit (s := S4x16x512) ![3, 0, 0] S1x16x512.size inb_S4x16x512_S1x16x512_3_0_0).toLoadRect (View.loadsAt_vmem h_S1x16x512))
  pure (shapeCast S16x512 c0 shapeCasts_S1x16x512_S16x512, shapeCast S16x512 c1 shapeCasts_S1x16x512_S16x512)

/-- One time step of both layers. -/
def stepP (k : Fin 16) (c0 c1 : FVec F S16x512 .f32) :
    Prog (TpuEff nD τ sig (Elt F) Λ₀ .tc) (FVec F S16x512 .f32 × FVec F S16x512 .f32 × FVec F S16x512 .f32 × FVec F S16x512 .f32) := do
  let m1 : Vec F S1x16x128 .f32 ← Prog.lift (.load arg2 (Rect.unit (s := S520x16x128) (k0_off1 i (BitVec.ofNat 32 k.val)) S1x16x128.size (k0_off1_inb i k)).toLoadRect (View.loadsAt_vmem h_S1x16x128))
  let x0 : Vec F S16x2048 .f32 ← Prog.lift (.load arg12 (Rect.unit (s := S256x2048) (k0_off2 (BitVec.ofNat 32 k.val)) S16x2048.size (k0_off2_inb k)).toLoadRect (View.loadsAt_vmem h_S16x2048))
  let a : Vec F S16x2048 .f32 ← Prog.lift (.load arg15 (Rect.unit (s := S16x2048) ![0, 0] S16x2048.size inb_S16x2048_S16x2048_0_0).toLoadRect (View.loadsAt_vmem h_S16x2048))
  let g := addf x0 a
  let c0' := cellC g (mulf c0 (mrow m1))
  let h0' := cellH g c0'
  let _d : Vec F S16x512 .bf16 ← Prog.lift (.load arg14 (Rect.unit (s := S256x512) (k0_off3 (BitVec.ofNat 32 k.val)) S16x512.size (k0_off3_inb k)).toLoadRect (View.loadsAt_vmem h_S16x512))
  Prog.lift (.store arg14 (Rect.unit (s := S256x512) (k0_off3 (BitVec.ofNat 32 k.val)) S16x512.size (k0_off3_inb k)) (packH h0') Finset.univ (View.stores_vmem h_S16x512 (harg14.storeExact_slice rfl _ (k0_off3_packedbf16 k)) (fun _ => rfl)) (.inl rfl))
  let m2 : Vec F S1x16x128 .f32 ← Prog.lift (.load arg2 (Rect.unit (s := S520x16x128) (k0_off4 i (BitVec.ofNat 32 k.val)) S1x16x128.size (k0_off4_inb i k)).toLoadRect (View.loadsAt_vmem h_S1x16x128))
  let w0 : Vec F S512x2048 .bf16 ← Prog.lift (.load arg5 (Rect.unit (s := S512x2048) ![0, 0] S512x2048.size inb_S512x2048_S512x2048_0_0).toLoadRect (View.loadsAt_vmem h_S512x2048))
  let _d : Vec F S16x2048 .f32 ← Prog.lift (.load arg15 (Rect.unit (s := S16x2048) ![0, 0] S16x2048.size inb_S16x2048_S16x2048_0_0).toLoadRect (View.loadsAt_vmem h_S16x2048))
  Prog.lift (.store arg15 (Rect.unit (s := S16x2048) ![0, 0] S16x2048.size inb_S16x2048_S16x2048_0_0) (proj h0' m2 w0) Finset.univ (View.stores_vmem_bits_univ h_S16x2048 rfl) (.inl rfl))
  let m3 : Vec F S1x16x128 .f32 ← Prog.lift (.load arg2 (Rect.unit (s := S520x16x128) (k0_off5 i (BitVec.ofNat 32 k.val)) S1x16x128.size (k0_off5_inb i k)).toLoadRect (View.loadsAt_vmem h_S1x16x128))
  let x1 : Vec F S16x2048 .f32 ← Prog.lift (.load arg13 (Rect.unit (s := S256x2048) (k0_off2 (BitVec.ofNat 32 k.val)) S16x2048.size (k0_off2_inb k)).toLoadRect (View.loadsAt_vmem h_S16x2048))
  let b : Vec F S16x2048 .f32 ← Prog.lift (.load arg16 (Rect.unit (s := S16x2048) ![0, 0] S16x2048.size inb_S16x2048_S16x2048_0_0).toLoadRect (View.loadsAt_vmem h_S16x2048))
  let g' := addf x1 b
  let c1' := cellC g' (mulf c1 (mrow m3))
  let h1' := cellH g' c1'
  let m4 : Vec F S1x16x128 .f32 ← Prog.lift (.load arg2 (Rect.unit (s := S520x16x128) (k0_off6 i (BitVec.ofNat 32 k.val)) S1x16x128.size (k0_off6_inb i k)).toLoadRect (View.loadsAt_vmem h_S1x16x128))
  let w1 : Vec F S512x2048 .bf16 ← Prog.lift (.load arg7 (Rect.unit (s := S512x2048) ![0, 0] S512x2048.size inb_S512x2048_S512x2048_0_0).toLoadRect (View.loadsAt_vmem h_S512x2048))
  let _d : Vec F S16x2048 .f32 ← Prog.lift (.load arg16 (Rect.unit (s := S16x2048) ![0, 0] S16x2048.size inb_S16x2048_S16x2048_0_0).toLoadRect (View.loadsAt_vmem h_S16x2048))
  Prog.lift (.store arg16 (Rect.unit (s := S16x2048) ![0, 0] S16x2048.size inb_S16x2048_S16x2048_0_0) (proj h1' m4 w1) Finset.univ (View.stores_vmem_bits_univ h_S16x2048 rfl) (.inl rfl))
  let _d : Vec F S1x16x512 .f32 ← Prog.lift (.load arg10 (Rect.unit (s := S16x16x512) ![k.val, 0, 0] S1x16x512.size (rowInb k)).toLoadRect (View.loadsAt_vmem h_S1x16x512))
  Prog.lift (.store arg10 (Rect.unit (s := S16x16x512) ![k.val, 0, 0] S1x16x512.size (rowInb k)) (shapeCast S1x16x512 h1' shapeCasts_S16x512_S1x16x512) Finset.univ (View.stores_vmem_bits_univ h_S1x16x512 rfl) (.inl rfl))
  pure (h0', c0', h1', c1')

/-- The steps of a list, in order. -/
def stepsP : List (Fin 16) → (FVec F S16x512 .f32 × FVec F S16x512 .f32 × FVec F S16x512 .f32 × FVec F S16x512 .f32) →
    Prog (TpuEff nD τ sig (Elt F) Λ₀ .tc) (FVec F S16x512 .f32 × FVec F S16x512 .f32 × FVec F S16x512 .f32 × FVec F S16x512 .f32)
  | [], r => pure r
  | k :: ks, r => do
    let r' ← stepP i arg2 arg5 arg7 arg10 arg12 arg13 arg14 harg14 arg15 arg16 k r.2.1 r.2.2.2
    stepsP ks r'

/-- The first layer's states back into their block. -/
def fin0P (r : FVec F S16x512 .f32 × FVec F S16x512 .f32 × FVec F S16x512 .f32 × FVec F S16x512 .f32) : Prog (TpuEff nD τ sig (Elt F) Λ₀ .tc) PUnit := do
  let _d : Vec F S1x16x512 .f32 ← Prog.lift (.load arg11 (Rect.unit (s := S4x16x512) ![0, 0, 0] S1x16x512.size inb_S4x16x512_S1x16x512_0_0_0).toLoadRect (View.loadsAt_vmem h_S1x16x512))
  Prog.lift (.store arg11 (Rect.unit (s := S4x16x512) ![0, 0, 0] S1x16x512.size inb_S4x16x512_S1x16x512_0_0_0) (shapeCast S1x16x512 r.1 shapeCasts_S16x512_S1x16x512) Finset.univ (View.stores_vmem_bits_univ h_S1x16x512 rfl) (.inl rfl))
  let _d : Vec F S1x16x512 .f32 ← Prog.lift (.load arg11 (Rect.unit (s := S4x16x512) ![2, 0, 0] S1x16x512.size inb_S4x16x512_S1x16x512_2_0_0).toLoadRect (View.loadsAt_vmem h_S1x16x512))
  Prog.lift (.store arg11 (Rect.unit (s := S4x16x512) ![2, 0, 0] S1x16x512.size inb_S4x16x512_S1x16x512_2_0_0) (shapeCast S1x16x512 r.2.1 shapeCasts_S16x512_S1x16x512) Finset.univ (View.stores_vmem_bits_univ h_S1x16x512 rfl) (.inl rfl))
  pure ⟨⟩

/-- The second layer's states back into their block. -/
def fin1P (r : FVec F S16x512 .f32 × FVec F S16x512 .f32 × FVec F S16x512 .f32 × FVec F S16x512 .f32) : Prog (TpuEff nD τ sig (Elt F) Λ₀ .tc) PUnit := do
  let _d : Vec F S1x16x512 .f32 ← Prog.lift (.load arg11 (Rect.unit (s := S4x16x512) ![1, 0, 0] S1x16x512.size inb_S4x16x512_S1x16x512_1_0_0).toLoadRect (View.loadsAt_vmem h_S1x16x512))
  Prog.lift (.store arg11 (Rect.unit (s := S4x16x512) ![1, 0, 0] S1x16x512.size inb_S4x16x512_S1x16x512_1_0_0) (shapeCast S1x16x512 r.2.2.1 shapeCasts_S16x512_S1x16x512) Finset.univ (View.stores_vmem_bits_univ h_S1x16x512 rfl) (.inl rfl))
  let _d : Vec F S1x16x512 .f32 ← Prog.lift (.load arg11 (Rect.unit (s := S4x16x512) ![3, 0, 0] S1x16x512.size inb_S4x16x512_S1x16x512_3_0_0).toLoadRect (View.loadsAt_vmem h_S1x16x512))
  Prog.lift (.store arg11 (Rect.unit (s := S4x16x512) ![3, 0, 0] S1x16x512.size inb_S4x16x512_S1x16x512_3_0_0) (shapeCast S1x16x512 r.2.2.2 shapeCasts_S16x512_S1x16x512) Finset.univ (View.stores_vmem_bits_univ h_S1x16x512 rfl) (.inl rfl))
  pure ⟨⟩

/-- The whole body. -/
def bodyP : Prog (TpuEff nD τ sig (Elt F) Λ₀ .tc) PUnit := do
  let p ← headP i arg1 arg2 arg3 arg4 arg5 arg6 arg7 arg8 arg9 arg11 arg13 arg14 arg15 arg16
  let c ← pre2P arg11 arg12 p.2.2.2.1 p.2.2.2.2
  let r ← stepsP i arg2 arg5 arg7 arg10 arg12 arg13 arg14 harg14 arg15 arg16 [0, 1, 2, 3, 4, 5, 6, 7, 8, 9, 10, 11, 12, 13, 14, 15] (c.1, c.1, c.2, c.2)
  if _ : k0_cond3 i = 1#1 then fin0P arg11 r else pure ⟨⟩
  if _ : k0_cond4 i = 1#1 then fin1P arg11 r else pure ⟨⟩

theorem body_eq : cc0__lstm_chunk_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    = bodyP i arg1 arg2 arg3 arg4 arg5 arg6 arg7 arg8 arg9 arg10 arg11 arg12 arg13 arg14 harg14 arg15 arg16 := by
  chain_rfl

end Cert.KernelIdeal.Hand

end
-- ==== Proof.KI.Exec.lean ====
/- What each piece of the kernel's body does to the buffers, as one function on their contents, and the triples that say so. -/
module

public import proofs.«01_k».proof.Proof.KI.Body
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer the body touches, in its parameters' order. -/
structure Vals (F : FTy → Type) [FloatOps F] where
  x : Vec F S16x16x512 .f32
  msk : Vec F S520x16x128 .f32
  hc : Vec F S4x16x512 .f32
  wi0 : Vec F S512x2048 .bf16
  wh0 : Vec F S512x2048 .bf16
  wi1 : Vec F S512x2048 .bf16
  wh1 : Vec F S512x2048 .bf16
  b0 : Vec F S1x2048 .f32
  b1 : Vec F S1x2048 .f32
  ys : Vec F S16x16x512 .f32
  fn : Vec F S4x16x512 .f32
  g0 : Vec F S256x2048 .f32
  g1 : Vec F S256x2048 .f32
  hs : Vec F S256x512 .bf16
  ma : Vec F S16x2048 .f32
  mb : Vec F S16x2048 .f32

/-- The mask's block for time step `n`. -/
def rowM (M : Vec F S520x16x128 .f32) (n : ℕ) : Vec F S1x16x128 .f32 :=
  fun y => M (ValueIdx.ix3 ⟨n % 520, Nat.mod_lt _ (by decide)⟩ (y 1) (y 2))

/-- A state of the packed block, as a matrix. -/
def rowS (S : Vec F S4x16x512 .f32) (r : Fin 4) : FVec F S16x512 .f32 :=
  fun y => S (ValueIdx.ix3 r (y 0) (y 1))

/-- Sixteen rows of a chunk's projection. -/
def rows16 (G : Vec F S256x2048 .f32) (k : Fin 16) : FVec F S16x2048 .f32 :=
  fun y => G (ValueIdx.ix2 ⟨16 * k.val + (y 0).val, by have := (y 0).isLt; have : (y 0).val < 16 := this; omega⟩ (y 1))

/-- Sixteen rows of the second layer's input replaced. -/
def putH (H : Vec F S256x512 .bf16) (k : Fin 16) (p : FVec F S16x512 .bf16) : Vec F S256x512 .bf16 :=
  VecWindow.put (s := S256x512) H ![16 * k.val, 0] S16x512.size p

/-- One step's result replaced. -/
def putY (Y : Vec F S16x16x512 .f32) (k : Fin 16) (p : FVec F S1x16x512 .f32) : Vec F S16x16x512 .f32 :=
  VecWindow.put (s := S16x16x512) Y ![k.val, 0, 0] S1x16x512.size p

/-- One packed state replaced. -/
def putS (S : Vec F S4x16x512 .f32) (r : Fin 4) (p : FVec F S1x16x512 .f32) : Vec F S4x16x512 .f32 :=
  VecWindow.put (s := S4x16x512) S ![r.val, 0, 0] S1x16x512.size p

/-- A layer's state. -/
abbrev HC (F : FTy → Type) [FloatOps F] := FVec F S16x512 .f32 × FVec F S16x512 .f32 × FVec F S16x512 .f32 × FVec F S16x512 .f32

/-- The first and the second layer's step at a grid point. -/
def n0 (i : grid0.Coords) (k : Fin 16) : ℕ := 16 * (min (i 0).val 31) + k.val
def n1 (i : grid0.Coords) (k : Fin 16) : ℕ := 16 * ((i 0).val - 1) + k.val

/-- One step's new states, from the buffers. -/
def stepR (i : grid0.Coords) (k : Fin 16) (v : Vals F) (c0 c1 : FVec F S16x512 .f32) : HC F :=
  let g := addf (rows16 v.g0 k) v.ma
  let c0' := cellC g (mulf c0 (mrow (rowM v.msk (n0 i k))))
  let g' := addf (rows16 v.g1 k) v.mb
  let c1' := cellC g' (mulf c1 (mrow (rowM v.msk (n1 i k))))
  (cellH g c0', c0', cellH g' c1', c1')

/-- One step's effect on the buffers, from the new states. -/
def stepV (i : grid0.Coords) (k : Fin 16) (v : Vals F) (r : HC F) : Vals F :=
  { v with
    hs := putH v.hs k (packH r.1)
    ma := proj r.1 (rowM v.msk (n0 i k + 1)) v.wh0
    mb := proj r.2.2.1 (rowM v.msk (n1 i k + 1)) v.wh1
    ys := putY v.ys k (shapeCast S1x16x512 r.2.2.1 shapeCasts_S16x512_S1x16x512) }

theorem ld_mask {κ : Kind} {sp : Space} (v : View sig κ sp S520x16x128 .f32) (f : v.ty.Contents (Elt F)) (off : Fin 3 → ℕ) (n : ℕ)
    (h : off = ![n, 0, 0]) (hn : n < 520) (inb : ∀ a, off a + S1x16x128.size a ≤ S520x16x128.size a) (M : Vec F S520x16x128 .f32) (hM : v.read (Elt F) f = M) :
    v.readAt (Elt F) (Rect.unit (s := S520x16x128) off S1x16x128.size inb).toLoadRect f = rowM M n := by
  subst h; subst hM
  funext y
  refine congrArg (v.read (Elt F) f) (funext fun a => Fin.ext ?_)
  have h0 : (y 0).val = 0 := by have := (y 0).isLt; have : (y 0).val < 1 := this; omega
  fin_cases a
  · show n + 1 * (y 0).val = n % 520
    rw [h0, Nat.mod_eq_of_lt hn]; rfl
  · show 0 + 1 * (y 1).val = (y 1).val
    omega
  · show 0 + 1 * (y 2).val = (y 2).val
    omega

theorem ld_rows {κ : Kind} {sp : Space} (v : View sig κ sp S256x2048 .f32) (f : v.ty.Contents (Elt F)) (off : Fin 2 → ℕ) (k : Fin 16)
    (h : off = ![16 * k.val, 0]) (inb : ∀ a, off a + S16x2048.size a ≤ S256x2048.size a) (M : Vec F S256x2048 .f32) (hM : v.read (Elt F) f = M) :
    v.readAt (Elt F) (Rect.unit (s := S256x2048) off S16x2048.size inb).toLoadRect f = rows16 M k := by
  subst h; subst hM
  funext y
  refine congrArg (v.read (Elt F) f) (funext fun a => Fin.ext ?_)
  fin_cases a
  · show 16 * k.val + 1 * (y 0).val = 16 * k.val + (y 0).val
    omega
  · show 0 + 1 * (y 1).val = (y 1).val
    omega

theorem ld_full {κ : Kind} {sp : Space} {s : Shape} {e : EltTy} (v : View sig κ sp s e) (f : v.ty.Contents (Elt F)) (off : Fin s.rank → ℕ)
    (inb : ∀ a, off a + s.size a ≤ s.size a) (M : Vec F s e) (hM : v.read (Elt F) f = M) :
    v.readAt (Elt F) (Rect.unit (s := s) off s.size inb).toLoadRect f = M :=
  (View.readAt_full v f inb).trans hM

/-- The second layer's mask rows of a step, in closed form. -/
theorem k0_off5_eq (i : grid0.Coords) (r : Fin 16) : k0_off5 i (BitVec.ofNat 32 r.val) = ![16 * ((i 0).val - 1) + r.val, 0, 0] := by
  have r_r : r.val < 16 := r.isLt
  have hr : Affine.IsInt (BitVec.ofNat 32 r.val) ((r.val : Int)) := Affine.ofNat _ (by omega)
  have r_i0 : (i 0).val < 33 := (i 0).isLt
  have hi : Affine.IsInt (BitVec.ofNat 32 (i 0).val) (((i 0).val : Int)) := Affine.ofNat _ (by omega)
  have h1 : Affine.IsInt 1#32 (1) := Affine.ofNat _ (by omega)
  have h2 : Affine.IsInt _ (((i 0).val : Int) - 1) := Affine.subi hi h1 (by omega)
  have h0 : Affine.IsInt 0#32 (0) := Affine.ofNat _ (by omega)
  have h3 : Affine.IsInt _ ((((i 0).val - 1 : ℕ) : Int)) := Affine.maxsi h2 h0 (by omega)
  have h16 : Affine.IsInt 16#32 (16) := Affine.ofNat _ (by omega)
  have h4 : Affine.IsInt _ (16 * (((i 0).val - 1 : ℕ) : Int)) := Affine.muli h3 h16 (by omega)
  have h5 : Affine.IsInt _ (16 * (((i 0).val - 1 : ℕ) : Int) + (r.val : Int)) := Affine.addi h4 hr (by omega)
  have h7 : Affine.IsInt _ (16 * (((i 0).val - 1 : ℕ) : Int) + (r.val : Int)) := Affine.indexCast h5
  exact Affine.vec_cons h7 (by omega) <| Affine.vec_cons (Affine.ofNat 0 (by omega) : Affine.IsInt 0#32 0) (by omega) <| Affine.vec_cons (Affine.ofNat 0 (by omega) : Affine.IsInt 0#32 0) (by omega) <| Affine.vec_nil

theorem k0_off6_eq (i : grid0.Coords) (r : Fin 16) : k0_off6 i (BitVec.ofNat 32 r.val) = ![16 * ((i 0).val - 1) + r.val + 1, 0, 0] := by
  have r_r : r.val < 16 := r.isLt
  have hr : Affine.IsInt (BitVec.ofNat 32 r.val) ((r.val : Int)) := Affine.ofNat _ (by omega)
  have r_i0 : (i 0).val < 33 := (i 0).isLt
  have hi : Affine.IsInt (BitVec.ofNat 32 (i 0).val) (((i 0).val : Int)) := Affine.ofNat _ (by omega)
  have h1 : Affine.IsInt 1#32 (1) := Affine.ofNat _ (by omega)
  have h2 : Affine.IsInt _ (((i 0).val : Int) - 1) := Affine.subi hi h1 (by omega)
  have h0 : Affine.IsInt 0#32 (0) := Affine.ofNat _ (by omega)
  have h3 : Affine.IsInt _ ((((i 0).val - 1 : ℕ) : Int)) := Affine.maxsi h2 h0 (by omega)
  have h16 : Affine.IsInt 16#32 (16) := Affine.ofNat _ (by omega)
  have h4 : Affine.IsInt _ (16 * (((i 0).val - 1 : ℕ) : Int)) := Affine.muli h3 h16 (by omega)
  have h5 : Affine.IsInt _ (16 * (((i 0).val - 1 : ℕ) : Int) + (r.val : Int)) := Affine.addi h4 hr (by omega)
  have h6 : Affine.IsInt _ (16 * (((i 0).val - 1 : ℕ) : Int) + (r.val : Int) + 1) := Affine.addi h5 h1 (by omega)
  have h7 : Affine.IsInt _ (16 * (((i 0).val - 1 : ℕ) : Int) + (r.val : Int) + 1) := Affine.indexCast h6
  exact Affine.vec_cons h7 (by omega) <| Affine.vec_cons (Affine.ofNat 0 (by omega) : Affine.IsInt 0#32 0) (by omega) <| Affine.vec_cons (Affine.ofNat 0 (by omega) : Affine.IsInt 0#32 0) (by omega) <| Affine.vec_nil

instance closed1 (i : grid0.Coords) (k : Fin 16) : ClosedOff (k0_off1 i (BitVec.ofNat 32 k.val)) := ⟨_, k0_off1_eq i k⟩
instance closed2 (k : Fin 16) : ClosedOff (k0_off2 (BitVec.ofNat 32 k.val)) := ⟨_, k0_off2_eq k⟩
instance closed3 (k : Fin 16) : ClosedOff (k0_off3 (BitVec.ofNat 32 k.val)) := ⟨_, k0_off3_eq k⟩
instance closed4 (i : grid0.Coords) (k : Fin 16) : ClosedOff (k0_off4 i (BitVec.ofNat 32 k.val)) := ⟨_, k0_off4_eq i k⟩
instance closed5 (i : grid0.Coords) (k : Fin 16) : ClosedOff (k0_off5 i (BitVec.ofNat 32 k.val)) := ⟨_, k0_off5_eq i k⟩
instance closed6 (i : grid0.Coords) (k : Fin 16) : ClosedOff (k0_off6 i (BitVec.ofNat 32 k.val)) := ⟨_, k0_off6_eq i k⟩

variable (c : Dev nD) (i : grid0.Coords)
variable (arg1 : Memref sig .tc .vmem S16x16x512 .f32) (harg1 : arg1.IsWhole)
variable (arg2 : Memref sig .tc .vmem S520x16x128 .f32) (harg2 : arg2.IsWhole)
variable (arg3 : Memref sig .tc .vmem S4x16x512 .f32) (harg3 : arg3.IsWhole)
variable (arg4 : Memref sig .tc .vmem S512x2048 .bf16) (harg4 : arg4.IsWhole)
variable (arg5 : Memref sig .tc .vmem S512x2048 .bf16) (harg5 : arg5.IsWhole)
variable (arg6 : Memref sig .tc .vmem S512x2048 .bf16) (harg6 : arg6.IsWhole)
variable (arg7 : Memref sig .tc .vmem S512x2048 .bf16) (harg7 : arg7.IsWhole)
variable (arg8 : Memref sig .tc .vmem S1x2048 .f32) (harg8 : arg8.IsWhole)
variable (arg9 : Memref sig .tc .vmem S1x2048 .f32) (harg9 : arg9.IsWhole)
variable (arg10 : Memref sig .tc .vmem S16x16x512 .f32) (harg10 : arg10.IsWhole)
variable (arg11 : Memref sig .tc .vmem S4x16x512 .f32) (harg11 : arg11.IsWhole)
variable (arg12 : Memref sig .tc .vmem S256x2048 .f32) (harg12 : arg12.IsWhole)
variable (arg13 : Memref sig .tc .vmem S256x2048 .f32) (harg13 : arg13.IsWhole)
variable (arg14 : Memref sig .tc .vmem S256x512 .bf16) (harg14 : arg14.IsWhole)
variable (arg15 : Memref sig .tc .vmem S16x2048 .f32) (harg15 : arg15.IsWhole)
variable (arg16 : Memref sig .tc .vmem S16x2048 .f32) (harg16 : arg16.IsWhole)

/-- Every buffer the body touches, whole, at the contents `v`. -/
def held (v : Vals F) : sProp 𝕄 :=
  iprop(owns (c : Thread nD τ) arg1 fullShare v.x ∗ owns (c : Thread nD τ) arg2 fullShare v.msk ∗ owns (c : Thread nD τ) arg3 fullShare v.hc ∗ owns (c : Thread nD τ) arg4 fullShare v.wi0 ∗ owns (c : Thread nD τ) arg5 fullShare v.wh0 ∗ owns (c : Thread nD τ) arg6 fullShare v.wi1 ∗ owns (c : Thread nD τ) arg7 fullShare v.wh1 ∗ owns (c : Thread nD τ) arg8 fullShare v.b0 ∗ owns (c : Thread nD τ) arg9 fullShare v.b1 ∗ owns (c : Thread nD τ) arg10 fullShare v.ys ∗ owns (c : Thread nD τ) arg11 fullShare v.fn ∗ owns (c : Thread nD τ) arg12 fullShare v.g0 ∗ owns (c : Thread nD τ) arg13 fullShare v.g1 ∗ owns (c : Thread nD τ) arg14 fullShare v.hs ∗ owns (c : Thread nD τ) arg15 fullShare v.ma ∗ owns (c : Thread nD τ) arg16 fullShare v.mb)

set_option maxHeartbeats 2000000 in
theorem step_triple (k : Fin 16) (v : Vals F) (c0 c1 : FVec F S16x512 .f32) (K : HC F → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (stepV i k v (stepR i k v c0 c1)) -∗ K (stepR i k v c0 c1)))
      ⊢ wp frame (wpE (defs₀ (F := F)) Variants.none (c : Thread nD τ) none) Set.univ
          (stepP i arg2 arg5 arg7 arg10 arg12 arg13 arg14 harg14 arg15 arg16 k c0 c1) K := by
  unfold held stepP
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  have q0 : n0 i k + 1 < 520 := by unfold n0; omega
  have q1 : n1 i k + 1 < 520 := by have h : (i 0).val < 33 := (i 0).isLt; unfold n1; omega
  have l1 := ld_mask arg2.view f2 _ (n0 i k) (k0_off1_eq i k) (by omega) (k0_off1_inb i k) v.msk e2
  have l2 := ld_mask arg2.view f2 _ (n0 i k + 1) (k0_off4_eq i k) (by omega) (k0_off4_inb i k) v.msk e2
  have l3 := ld_mask arg2.view f2 _ (n1 i k) (k0_off5_eq i k) (by omega) (k0_off5_inb i k) v.msk e2
  have l4 := ld_mask arg2.view f2 _ (n1 i k + 1) (k0_off6_eq i k) (by omega) (k0_off6_inb i k) v.msk e2
  have l5 := ld_rows arg12.view f12 _ k (k0_off2_eq k) (k0_off2_inb k) v.g0 e12
  have l6 := ld_rows arg13.view f13 _ k (k0_off2_eq k) (k0_off2_inb k) v.g1 e13
  have l7 := ld_full arg15.view f15 _ inb_S16x2048_S16x2048_0_0 v.ma e15
  have l8 := ld_full arg16.view f16 _ inb_S16x2048_S16x2048_0_0 v.mb e16
  have l9 := ld_full arg5.view f5 _ inb_S512x2048_S512x2048_0_0 v.wh0 e5
  have l10 := ld_full arg7.view f7 _ inb_S512x2048_S512x2048_0_0 v.wh1 e7
  have r1 : step_triple.sl.h0' c i arg2 arg12 arg15 k c0 f2 f12 f15 = (stepR i k v c0 c1).1 := by
    delta step_triple.sl.h0' step_triple.sl.c0' step_triple.sl.g
    rw [l1, l5, l7]
    rfl
  have r2 : step_triple.sl.c0' c i arg2 arg12 arg15 k c0 f2 f12 f15 = (stepR i k v c0 c1).2.1 := by
    delta step_triple.sl.c0' step_triple.sl.g
    rw [l1, l5, l7]
    rfl
  have r3 : step_triple.sl.h1' c i arg2 arg13 arg16 k c1 f2 f13 f16 = (stepR i k v c0 c1).2.2.1 := by
    delta step_triple.sl.h1' step_triple.sl.c1' step_triple.sl.g'
    rw [l3, l6, l8]
    rfl
  have r4 : step_triple.sl.c1' c i arg2 arg13 arg16 k c1 f2 f13 f16 = (stepR i k v c0 c1).2.2.2 := by
    delta step_triple.sl.c1' step_triple.sl.g'
    rw [l3, l6, l8]
    rfl
  rw [r1, r2, r3, r4, l2, l4, l9, l10]
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact (View.read_writes_cons_put _ _ _ _ [] rfl).trans (by rw [View.writes_nil, e10]; rfl)
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact (View.read_writes_cons_put _ _ _ _ [] (k0_off3_eq k)).trans (by rw [View.writes_nil, e14]; rfl)
  isplitl [H15]
  · iexists _; isplitr; swap; · iexact H15
    ipureintro; exact View.read_writes_full _ _ _ _ []
  iexists _; isplitr; swap; · iexact H16
  ipureintro; exact View.read_writes_full _ _ _ _ []

end Cert.KernelIdeal.Hand

end
-- ==== Proof.KI.Triples.lean ====
/- The triples of the body's pieces and of the whole body: each piece is one function on the buffers' contents. -/
module

public import proofs.«01_k».proof.Proof.KI.Exec
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One of the packed states, as a block. -/
def rowF (S : Vec F S4x16x512 .f32) (r : Fin 4) : Vec F S1x16x512 .f32 :=
  fun y => S (ValueIdx.ix3 r (y 1) (y 2))

/-- A block as a matrix. -/
def unF (h : Vec F S1x16x512 .f32) : FVec F S16x512 .f32 := shapeCast S16x512 h shapeCasts_S1x16x512_S16x512

/-- A matrix as a block. -/
def toF (h : FVec F S16x512 .f32) : FVec F S1x16x512 .f32 := shapeCast S1x16x512 h shapeCasts_S16x512_S1x16x512

theorem ld_fin {κ : Kind} {sp : Space} (v : View sig κ sp S4x16x512 .f32) (f : v.ty.Contents (Elt F)) (off : Fin 3 → ℕ) (r : Fin 4)
    (h : off = ![r.val, 0, 0]) (inb : ∀ a, off a + S1x16x512.size a ≤ S4x16x512.size a) (M : Vec F S4x16x512 .f32) (hM : v.read (Elt F) f = M) :
    v.readAt (Elt F) (Rect.unit (s := S4x16x512) off S1x16x512.size inb).toLoadRect f = rowF M r := by
  subst h; subst hM
  funext y
  refine congrArg (v.read (Elt F) f) (funext fun a => Fin.ext ?_)
  have h0 : (y 0).val = 0 := by have := (y 0).isLt; have : (y 0).val < 1 := this; omega
  fin_cases a
  · show r.val + 1 * (y 0).val = r.val
    omega
  · show 0 + 1 * (y 1).val = (y 1).val
    omega
  · show 0 + 1 * (y 2).val = (y 2).val
    omega

/-- The first point's initialisation, on the buffers. -/
def init0V (v : Vals F) : Vals F :=
  { v with fn := v.hc, ma := proj (unF (rowF v.hc 0)) (rowM v.msk 0) v.wh0 }

/-- The second point's initialisation, on the buffers. -/
def init1V (v : Vals F) : Vals F :=
  { v with mb := proj (unF (rowF v.fn 1)) (rowM v.msk 0) v.wh1 }

/-- The second layer's projection, on the buffers. -/
def preV (v : Vals F) : Vals F := { v with g1 := preG1 v.hs v.wi1 v.b1 }

/-- What the prefix hands to the rest. -/
def preR (i : grid0.Coords) (v : Vals F) : (Σ' (arg0 : BitVec 32) (v1 : BitVec 32) (v4 : BitVec 32) (v28 : FVec F S256x2048 .f32), Vec F S1x2048 .f32) :=
  ⟨BitVec.ofNat 32 (i 0).val, Scalar.muli (Scalar.minsi (BitVec.ofNat 32 (i 0).val) 31#32) 16#32, Scalar.muli (Scalar.maxsi (Scalar.subi (BitVec.ofNat 32 (i 0).val) 1#32) 0#32) 16#32, matG0 v.x v.wi0, v.b0⟩

/-- Both conditional initialisations. -/
def head0V (i : grid0.Coords) (v : Vals F) : Vals F := if k0_cond1 i = 1#1 then init0V v else v
def head1V (i : grid0.Coords) (v : Vals F) : Vals F := if cond2 i = 1#1 then init1V v else v
def headV (i : grid0.Coords) (v : Vals F) : Vals F := preV (head1V i (head0V i v))

/-- The first layer's projection, on the buffers. -/
def pre2V (y : FVec F S256x2048 .f32) (b : Vec F S1x2048 .f32) (v : Vals F) : Vals F := { v with g0 := addG0 y b }

/-- The steps of a list, on the buffers and the states. -/
def runV (i : grid0.Coords) : List (Fin 16) → Vals F → HC F → Vals F × HC F
  | [], v, r => (v, r)
  | k :: ks, v, r => runV i ks (stepV i k v (stepR i k v r.2.1 r.2.2.2)) (stepR i k v r.2.1 r.2.2.2)

/-- The states written back, on the buffers. -/
def fin0V (r : HC F) (v : Vals F) : Vals F := { v with fn := putS (putS v.fn 0 (toF r.1)) 2 (toF r.2.1) }
def fin1V (r : HC F) (v : Vals F) : Vals F := { v with fn := putS (putS v.fn 1 (toF r.2.2.1)) 3 (toF r.2.2.2) }
def tail0V (i : grid0.Coords) (r : HC F) (v : Vals F) : Vals F := if k0_cond3 i = 1#1 then fin0V r v else v
def tail1V (i : grid0.Coords) (r : HC F) (v : Vals F) : Vals F := if k0_cond4 i = 1#1 then fin1V r v else v

/-- The cell states a point starts from. -/
def startR (v : Vals F) : HC F := (unF (rowF v.fn 2), unF (rowF v.fn 2), unF (rowF v.fn 3), unF (rowF v.fn 3))

/-- The sixteen steps. -/
def ks16 : List (Fin 16) := [0, 1, 2, 3, 4, 5, 6, 7, 8, 9, 10, 11, 12, 13, 14, 15]

/-- The buffers before the steps. -/
def midV (i : grid0.Coords) (v : Vals F) : Vals F := pre2V (matG0 (headV i v).x (headV i v).wi0) (headV i v).b0 (headV i v)

/-- The whole body, on the buffers. -/
def bodyV (i : grid0.Coords) (v : Vals F) : Vals F :=
  tail1V i (runV i ks16 (midV i v) (startR (midV i v))).2
    (tail0V i (runV i ks16 (midV i v) (startR (midV i v))).2 (runV i ks16 (midV i v) (startR (midV i v))).1)

variable (c : Dev nD) (i : grid0.Coords)
variable (arg1 : Memref sig .tc .vmem S16x16x512 .f32) (harg1 : arg1.IsWhole)
variable (arg2 : Memref sig .tc .vmem S520x16x128 .f32) (harg2 : arg2.IsWhole)
variable (arg3 : Memref sig .tc .vmem S4x16x512 .f32) (harg3 : arg3.IsWhole)
variable (arg4 : Memref sig .tc .vmem S512x2048 .bf16) (harg4 : arg4.IsWhole)
variable (arg5 : Memref sig .tc .vmem S512x2048 .bf16) (harg5 : arg5.IsWhole)
variable (arg6 : Memref sig .tc .vmem S512x2048 .bf16) (harg6 : arg6.IsWhole)
variable (arg7 : Memref sig .tc .vmem S512x2048 .bf16) (harg7 : arg7.IsWhole)
variable (arg8 : Memref sig .tc .vmem S1x2048 .f32) (harg8 : arg8.IsWhole)
variable (arg9 : Memref sig .tc .vmem S1x2048 .f32) (harg9 : arg9.IsWhole)
variable (arg10 : Memref sig .tc .vmem S16x16x512 .f32) (harg10 : arg10.IsWhole)
variable (arg11 : Memref sig .tc .vmem S4x16x512 .f32) (harg11 : arg11.IsWhole)
variable (arg12 : Memref sig .tc .vmem S256x2048 .f32) (harg12 : arg12.IsWhole)
variable (arg13 : Memref sig .tc .vmem S256x2048 .f32) (harg13 : arg13.IsWhole)
variable (arg14 : Memref sig .tc .vmem S256x512 .bf16) (harg14 : arg14.IsWhole)
variable (arg15 : Memref sig .tc .vmem S16x2048 .f32) (harg15 : arg15.IsWhole)
variable (arg16 : Memref sig .tc .vmem S16x2048 .f32) (harg16 : arg16.IsWhole)

theorem seq {P B X Y Z : sProp 𝕄} (h1 : iprop(P ∗ (B -∗ Y)) ⊢ Z) (h2 : iprop(B ∗ X) ⊢ Y) : iprop(P ∗ X) ⊢ Z := by
  refine BIBase.Entails.trans ?_ h1
  iintro ⟨HP, HX⟩
  isplitl [HP]
  · iexact HP
  iintro HB
  iapply h2
  isplitl [HB]
  · iexact HB
  iexact HX

theorem done {P X : sProp 𝕄} : iprop(P ∗ (P -∗ X)) ⊢ X := by
  iintro ⟨HP, HX⟩
  iapply HX
  iexact HP

set_option maxHeartbeats 2000000 in
theorem init0_triple  (v : Vals F) (K : PUnit → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (init0V v) -∗ K ⟨⟩))
      ⊢ wp frame (wpE (defs₀ (F := F)) Variants.none (c : Thread nD τ) none) Set.univ (init0P arg2 arg3 arg5 arg11 arg15) K := by
  unfold held init0P
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  have m0 := ld_mask arg2.view f2 ![0, 0, 0] 0 rfl (by omega) inb_S520x16x128_S1x16x128_0_0_0 v.msk e2
  have l1 := ld_fin arg3.view f3 ![0, 0, 0] 0 rfl inb_S4x16x512_S1x16x512_0_0_0 v.hc e3
  have l2 := ld_full arg3.view f3 _ inb_S4x16x512_S4x16x512_0_0_0 v.hc e3
  have l3 := ld_full arg5.view f5 _ inb_S512x2048_S512x2048_0_0 v.wh0 e5
  rw [m0, l1, l2, l3]
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact View.read_writes_full _ _ _ _ []
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact View.read_writes_full _ _ _ _ []
  iexists _; isplitr; swap; · iexact H16
  ipureintro; exact e16

set_option maxHeartbeats 2000000 in
theorem init1_triple  (v : Vals F) (K : PUnit → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (init1V v) -∗ K ⟨⟩))
      ⊢ wp frame (wpE (defs₀ (F := F)) Variants.none (c : Thread nD τ) none) Set.univ (init1P arg2 arg7 arg11 arg16) K := by
  unfold held init1P
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  have m0 := ld_mask arg2.view f2 ![0, 0, 0] 0 rfl (by omega) inb_S520x16x128_S1x16x128_0_0_0 v.msk e2
  have l1 := ld_fin arg11.view f11 ![1, 0, 0] 1 rfl inb_S4x16x512_S1x16x512_1_0_0 v.fn e11
  have l3 := ld_full arg7.view f7 _ inb_S512x2048_S512x2048_0_0 v.wh1 e7
  rw [m0, l1, l3]
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  iexists _; isplitr; swap; · iexact H16
  ipureintro; exact View.read_writes_full _ _ _ _ []

set_option maxHeartbeats 2000000 in
theorem pre_triple  (v : Vals F) (K : (Σ' (arg0 : BitVec 32) (v1 : BitVec 32) (v4 : BitVec 32) (v28 : FVec F S256x2048 .f32), Vec F S1x2048 .f32) → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (preV v) -∗ K (preR i v)))
      ⊢ wp frame (wpE (defs₀ (F := F)) Variants.none (c : Thread nD τ) none) Set.univ (preP i arg1 arg4 arg6 arg8 arg9 arg13 arg14) K := by
  unfold held preP preR
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  have l1 := ld_full arg14.view f14 _ inb_S256x512_S256x512_0_0 v.hs e14
  have l2 := ld_full arg6.view f6 _ inb_S512x2048_S512x2048_0_0 v.wi1 e6
  have l3 := ld_full arg9.view f9 _ inb_S1x2048_S1x2048_0_0 v.b1 e9
  have l4 := ld_full arg1.view f1 _ inb_S16x16x512_S16x16x512_0_0_0 v.x e1
  have l5 := ld_full arg4.view f4 _ inb_S512x2048_S512x2048_0_0 v.wi0 e4
  have l6 := ld_full arg8.view f8 _ inb_S1x2048_S1x2048_0_0 v.b0 e8
  rw [l1, l2, l3, l4, l5, l6]
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact View.read_writes_full _ _ _ _ []
  isplitl [H14]
  · iexists _; isplitr; swap; · iexact H14
    ipureintro; exact e14
  isplitl [H15]
  · iexists _; isplitr; swap; · iexact H15
    ipureintro; exact e15
  iexists _; isplitr; swap; · iexact H16
  ipureintro; exact e16

set_option maxHeartbeats 2000000 in
theorem pre2_triple (y : FVec F S256x2048 .f32) (b : Vec F S1x2048 .f32) (v : Vals F) (K : (FVec F S16x512 .f32 × FVec F S16x512 .f32) → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (pre2V y b v) -∗ K (unF (rowF v.fn 2), unF (rowF v.fn 3))))
      ⊢ wp frame (wpE (defs₀ (F := F)) Variants.none (c : Thread nD τ) none) Set.univ (pre2P arg11 arg12 y b) K := by
  unfold held pre2P unF
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  have l1 := ld_fin arg11.view f11 ![2, 0, 0] 2 rfl inb_S4x16x512_S1x16x512_2_0_0 v.fn e11
  have l2 := ld_fin arg11.view f11 ![3, 0, 0] 3 rfl inb_S4x16x512_S1x16x512_3_0_0 v.fn e11
  rw [l1, l2]
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact View.read_writes_full _ _ _ _ []
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  iexists _; isplitr; swap; · iexact H16
  ipureintro; exact e16

set_option maxHeartbeats 2000000 in
theorem fin0_triple (r : HC F) (v : Vals F) (K : PUnit → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (fin0V r v) -∗ K ⟨⟩))
      ⊢ wp frame (wpE (defs₀ (F := F)) Variants.none (c : Thread nD τ) none) Set.univ (fin0P arg11 r) K := by
  unfold held fin0P
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact (View.read_writes_cons_put _ _ _ _ _ rfl).trans (congrArg (fun z => VecWindow.put z _ _ _) ((View.read_writes_cons_put _ _ _ _ [] rfl).trans (by rw [View.writes_nil, e11]; rfl)))
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  iexists _; isplitr; swap; · iexact H16
  ipureintro; exact e16

set_option maxHeartbeats 2000000 in
theorem fin1_triple (r : HC F) (v : Vals F) (K : PUnit → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (fin1V r v) -∗ K ⟨⟩))
      ⊢ wp frame (wpE (defs₀ (F := F)) Variants.none (c : Thread nD τ) none) Set.univ (fin1P arg11 r) K := by
  unfold held fin1P
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact (View.read_writes_cons_put _ _ _ _ _ rfl).trans (congrArg (fun z => VecWindow.put z _ _ _) ((View.read_writes_cons_put _ _ _ _ [] rfl).trans (by rw [View.writes_nil, e11]; rfl)))
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  iexists _; isplitr; swap; · iexact H16
  ipureintro; exact e16

theorem head_triple  (v : Vals F) (K : (Σ' (arg0 : BitVec 32) (v1 : BitVec 32) (v4 : BitVec 32) (v28 : FVec F S256x2048 .f32), Vec F S1x2048 .f32) → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (headV i v) -∗ K (preR i (head1V i (head0V i v)))))
      ⊢ wp frame (wpE (defs₀ (F := F)) Variants.none (c : Thread nD τ) none) Set.univ (headP i arg1 arg2 arg3 arg4 arg5 arg6 arg7 arg8 arg9 arg11 arg13 arg14 arg15 arg16) K := by
  have rest : ∀ K : (Σ' (arg0 : BitVec 32) (v1 : BitVec 32) (v4 : BitVec 32) (v28 : FVec F S256x2048 .f32), Vec F S1x2048 .f32) → sProp 𝕄, iprop(held c arg1 arg2 arg3 arg4 arg5 arg6 arg7 arg8 arg9 arg10 arg11 arg12 arg13 arg14 arg15 arg16 (head0V i v) ∗ (held c arg1 arg2 arg3 arg4 arg5 arg6 arg7 arg8 arg9 arg10 arg11 arg12 arg13 arg14 arg15 arg16 (headV i v) -∗ K (preR i (head1V i (head0V i v))))) ⊢
      wp frame (wpE (defs₀ (F := F)) Variants.none (c : Thread nD τ) none) Set.univ (if _ : cond2 i = 1#1 then (init1P arg2 arg7 arg11 arg16 >>= fun _ => preP i arg1 arg4 arg6 arg8 arg9 arg13 arg14) else preP i arg1 arg4 arg6 arg8 arg9 arg13 arg14) K := by
    intro K
    unfold headV head1V
    by_cases h : cond2 i = 1#1
    · rw [dif_pos h, if_pos h, wp_bind]
      exact seq (init1_triple c arg1 arg2 arg3 arg4 arg5 arg6 arg7 arg8 arg9 arg10 arg11 arg12 arg13 arg14 arg15 arg16 _ _) (pre_triple c i arg1 arg2 arg3 arg4 arg5 arg6 arg7 arg8 arg9 arg10 arg11 arg12 arg13 arg14 arg15 arg16 _ K)
    · rw [dif_neg h, if_neg h]
      exact pre_triple c i arg1 arg2 arg3 arg4 arg5 arg6 arg7 arg8 arg9 arg10 arg11 arg12 arg13 arg14 arg15 arg16 _ K
  show _ ⊢ wp frame (wpE (defs₀ (F := F)) Variants.none (c : Thread nD τ) none) Set.univ (if _ : k0_cond1 i = 1#1 then (init0P arg2 arg3 arg5 arg11 arg15 >>= fun _ => if _ : cond2 i = 1#1 then (init1P arg2 arg7 arg11 arg16 >>= fun _ => preP i arg1 arg4 arg6 arg8 arg9 arg13 arg14) else preP i arg1 arg4 arg6 arg8 arg9 arg13 arg14)
    else if _ : cond2 i = 1#1 then (init1P arg2 arg7 arg11 arg16 >>= fun _ => preP i arg1 arg4 arg6 arg8 arg9 arg13 arg14) else preP i arg1 arg4 arg6 arg8 arg9 arg13 arg14) K
  by_cases h : k0_cond1 i = 1#1
  · have e : head0V i v = init0V v := if_pos h
    rw [dif_pos h, wp_bind]
    rw [e] at rest ⊢
    exact seq (init0_triple c arg1 arg2 arg3 arg4 arg5 arg6 arg7 arg8 arg9 arg10 arg11 arg12 arg13 arg14 arg15 arg16 _ _) (rest K)
  · have e : head0V i v = v := if_neg h
    rw [dif_neg h]
    rw [e] at rest ⊢
    exact rest K

theorem steps_triple (ks : List (Fin 16)) (r : HC F) (v : Vals F) (K : HC F → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (runV i ks v r).1 -∗ K (runV i ks v r).2))
      ⊢ wp frame (wpE (defs₀ (F := F)) Variants.none (c : Thread nD τ) none) Set.univ (stepsP i arg2 arg5 arg7 arg10 arg12 arg13 arg14 harg14 arg15 arg16 ks r) K := by
  induction ks generalizing v r with
  | nil =>
    unfold stepsP runV
    rw [wp_pure]; exact (done (F := F)).trans fupd_intro
  | cons k ks ih =>
    unfold stepsP runV
    rw [wp_bind]
    exact seq (step_triple c i arg1 arg2 arg3 arg4 arg5 arg6 arg7 arg8 arg9 arg10 arg11 arg12 arg13 arg14 harg14 arg15 arg16 k v _ _ _) (ih _ _)

theorem body_triple  (v : Vals F) (K : PUnit → sProp 𝕄) :
    iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (bodyV i v) -∗ K ⟨⟩))
      ⊢ wp frame (wpE (defs₀ (F := F)) Variants.none (c : Thread nD τ) none) Set.univ (bodyP i arg1 arg2 arg3 arg4 arg5 arg6 arg7 arg8 arg9 arg10 arg11 arg12 arg13 arg14 harg14 arg15 arg16) K := by
  unfold bodyP
  rw [wp_bind]
  refine seq (head_triple c i arg1 arg2 arg3 arg4 arg5 arg6 arg7 arg8 arg9 arg10 arg11 arg12 arg13 arg14 arg15 arg16 v _) ?_
  rw [wp_bind]
  refine seq (pre2_triple c arg1 arg2 arg3 arg4 arg5 arg6 arg7 arg8 arg9 arg10 arg11 arg12 arg13 arg14 arg15 arg16 _ _ _ _) ?_
  rw [wp_bind]
  refine seq (steps_triple c i arg1 arg2 arg3 arg4 arg5 arg6 arg7 arg8 arg9 arg10 arg11 arg12 arg13 arg14 harg14 arg15 arg16 ks16 (startR (midV i v)) (midV i v) _) ?_
  unfold bodyV
  generalize (runV i ks16 (midV i v) (startR (midV i v))) = q
  show iprop(held c arg1 arg2 arg3 arg4 arg5 arg6 arg7 arg8 arg9 arg10 arg11 arg12 arg13 arg14 arg15 arg16 q.1 ∗ _) ⊢ wp frame (wpE (defs₀ (F := F)) Variants.none (c : Thread nD τ) none) Set.univ (if _ : k0_cond3 i = 1#1 then (fin0P arg11 q.2 >>= fun _ => if _ : k0_cond4 i = 1#1 then fin1P arg11 q.2 else pure ⟨⟩)
    else if _ : k0_cond4 i = 1#1 then fin1P arg11 q.2 else pure ⟨⟩) K
  have rest : ∀ (v : Vals F), iprop(held c arg1 arg2 arg3 arg4 arg5 arg6 arg7 arg8 arg9 arg10 arg11 arg12 arg13 arg14 arg15 arg16 v ∗ (held c arg1 arg2 arg3 arg4 arg5 arg6 arg7 arg8 arg9 arg10 arg11 arg12 arg13 arg14 arg15 arg16 (tail1V i q.2 v) -∗ K ⟨⟩)) ⊢ wp frame (wpE (defs₀ (F := F)) Variants.none (c : Thread nD τ) none) Set.univ (if _ : k0_cond4 i = 1#1 then fin1P (F := F) arg11 q.2 else pure ⟨⟩) K := by
    intro v
    unfold tail1V
    by_cases h : k0_cond4 i = 1#1
    · rw [dif_pos h, if_pos h]; exact fin1_triple c arg1 arg2 arg3 arg4 arg5 arg6 arg7 arg8 arg9 arg10 arg11 arg12 arg13 arg14 arg15 arg16 q.2 v K
    · rw [dif_neg h, if_neg h, wp_pure]; exact (done (F := F)).trans fupd_intro
  unfold tail0V
  by_cases h : k0_cond3 i = 1#1
  · rw [dif_pos h, if_pos h, wp_bind]
    exact seq (fin0_triple c arg1 arg2 arg3 arg4 arg5 arg6 arg7 arg8 arg9 arg10 arg11 arg12 arg13 arg14 arg15 arg16 q.2 _ _) (rest _)
  · rw [dif_neg h, if_neg h]
    exact rest _

end Cert.KernelIdeal.Hand

end
-- ==== Proof.KI.Inv.lean ====
/- What the buffers hold after each grid point: two recurrences, the second one chunk behind the first. -/
module

public import proofs.«01_k».proof.Proof.KI.Triples
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- A layer's states after `n` steps: its input's projections `G`, the masks, the recurrent weights, the state it starts from. -/
def lay (G : ℕ → FVec F S16x2048 .f32) (M : Vec F S520x16x128 .f32) (w : Vec F S512x2048 .bf16) (h0 c0 : FVec F S16x512 .f32) :
    ℕ → FVec F S16x512 .f32 × FVec F S16x512 .f32
  | 0 => (h0, c0)
  | n + 1 =>
    let p := lay G M w h0 c0 n
    let g := addf (G n) (proj p.1 (rowM M n) w)
    let c := cellC g (mulf p.2 (mrow (rowM M n)))
    (cellH g c, c)

/-- What the kernel reads: the chunks of the input and the whole arrays. -/
structure Ins (F : FTy → Type) [FloatOps F] where
  xb : ℕ → Vec F S16x16x512 .f32
  msk : Vec F S520x16x128 .f32
  hc : Vec F S4x16x512 .f32
  wi0 : Vec F S512x2048 .bf16
  wh0 : Vec F S512x2048 .bf16
  wi1 : Vec F S512x2048 .bf16
  wh1 : Vec F S512x2048 .bf16
  b0 : Vec F S1x2048 .f32
  b1 : Vec F S1x2048 .f32

variable (I : Ins F)

/-- A step's place in its chunk. -/
def kf (n : ℕ) : Fin 16 := ⟨n % 16, Nat.mod_lt _ (by decide)⟩

/-- The first layer: its projections and its states. -/
def G0 (n : ℕ) : FVec F S16x2048 .f32 := rows16 (addG0 (matG0 (I.xb (n / 16)) I.wi0) I.b0) (kf n)
def S0 : ℕ → FVec F S16x512 .f32 × FVec F S16x512 .f32 := lay (G0 I) I.msk I.wh0 (unF (rowF I.hc 0)) (unF (rowF I.hc 2))

/-- A chunk of the first layer's hidden states, as the second layer reads it. -/
def HS (t : ℕ) : Vec F S256x512 .bf16 :=
  fun y => packH (S0 I (16 * t + (y 0).val / 16 + 1)).1 (ix2 ⟨(y 0).val % 16, Nat.mod_lt _ (by decide)⟩ (y 1))

/-- The second layer: its projections and its states. -/
def G1 (n : ℕ) : FVec F S16x2048 .f32 := rows16 (preG1 (HS I (n / 16)) I.wi1 I.b1) (kf n)
def S1 : ℕ → FVec F S16x512 .f32 × FVec F S16x512 .f32 := lay (G1 I) I.msk I.wh1 (unF (rowF I.hc 1)) (unF (rowF I.hc 3))

/-- A chunk of the second layer's hidden states. -/
def YS (t : ℕ) : Vec F S16x16x512 .f32 := fun y => (S1 I (16 * t + (y 0).val + 1)).1 (ix2 (y 1) (y 2))

/-- The packed states: the first layer after `p` steps, the second after `q`. -/
def rowQ (p q : ℕ) : Fin 4 → FVec F S16x512 .f32 := ![(S0 I p).1, (S1 I q).1, (S0 I p).2, (S1 I q).2]
def FN (p q : ℕ) : Vec F S4x16x512 .f32 := fun y => rowQ I p q (y 0) (ix2 (y 1) (y 2))

theorem unF_rowF (S : Vec F S4x16x512 .f32) (r : Fin 4) (a : Fin 16) (b : Fin 512) : unF (rowF S r) (ix2 a b) = S (ix3 r a b) :=
  shapeCast_1ab_ab_apply _ _ a b

theorem toF_apply (h : FVec F S16x512 .f32) (u : Fin 1) (a : Fin 16) (b : Fin 512) : toF h (ix3 u a b) = h (ix2 a b) :=
  shapeCast_ab_1ab_apply _ _ u a b

theorem unF_FN (p q : ℕ) (r : Fin 4) : unF (rowF (FN I p q) r) = rowQ I p q r := by
  funext y
  rw [eq_ix2 y]
  exact unF_rowF _ r (y 0) (y 1)

theorem rowQ_0 (p q : ℕ) : rowQ I p q 0 = (S0 I p).1 := rfl
theorem rowQ_1 (p q : ℕ) : rowQ I p q 1 = (S1 I q).1 := rfl
theorem rowQ_2 (p q : ℕ) : rowQ I p q 2 = (S0 I p).2 := rfl
theorem rowQ_3 (p q : ℕ) : rowQ I p q 3 = (S1 I q).2 := rfl

/-- A claim of four rows from each. -/
theorem fin4 {P : Fin 4 → Prop} (h0 : P 0) (h1 : P 1) (h2 : P 2) (h3 : P 3) (r : Fin 4) : P r := by
  fin_cases r
  · exact h0
  · exact h1
  · exact h2
  · exact h3

/-- A packed block is its four states. -/
theorem fn_ext (S T : Vec F S4x16x512 .f32) (h : ∀ r, unF (rowF S r) = unF (rowF T r)) : S = T := by
  funext y
  have := congrFun (h (y 0)) (ix2 (y 1) (y 2))
  rw [unF_rowF S (y 0) (y 1) (y 2), unF_rowF T (y 0) (y 1) (y 2)] at this
  rw [eq_ix3 y]
  exact this

theorem putS_same (S : Vec F S4x16x512 .f32) (r : Fin 4) (h : FVec F S16x512 .f32) : unF (rowF (putS S r (toF h)) r) = h := by
  funext y
  rw [eq_ix2 y]
  refine (unF_rowF _ r (y 0) (y 1)).trans ?_
  unfold putS VecWindow.put
  rw [dif_pos (by
    intro a
    have h1 : (y 0).val < 16 := (y 0).isLt
    have h2 : (y 1).val < 512 := (y 1).isLt
    fin_cases a
    · show r.val ≤ r.val ∧ r.val < r.val + 1
      omega
    · show 0 ≤ (y 0).val ∧ (y 0).val < 0 + 16
      omega
    · show 0 ≤ (y 1).val ∧ (y 1).val < 0 + 512
      omega)]
  refine Eq.trans (congrArg (toF h) ?_) (toF_apply h 0 (y 0) (y 1))
  funext a
  refine Fin.ext ?_
  fin_cases a
  · show r.val - r.val = 0
    omega
  · rfl
  · rfl

theorem putS_other (S : Vec F S4x16x512 .f32) (r s : Fin 4) (hrs : r ≠ s) (h : FVec F S16x512 .f32) : unF (rowF (putS S r (toF h)) s) = unF (rowF S s) := by
  funext y
  rw [eq_ix2 y]
  refine (unF_rowF _ s (y 0) (y 1)).trans (Eq.trans ?_ (unF_rowF S s (y 0) (y 1)).symm)
  unfold putS VecWindow.put
  rw [dif_neg (by
    intro hall
    have := hall 0
    have h1 : r.val ≤ s.val ∧ s.val < r.val + 1 := this
    exact hrs (Fin.ext (by omega)))]

theorem putH_apply (H : Vec F S256x512 .bf16) (k : Fin 16) (p : FVec F S16x512 .bf16) (y : S256x512.Idx) :
    putH H k p y = if (y 0).val / 16 = k.val then p (ix2 ⟨(y 0).val % 16, Nat.mod_lt _ (by decide)⟩ (y 1)) else H y := by
  have h0 : (y 0).val < 256 := (y 0).isLt
  have h2 : (y 1).val < 512 := (y 1).isLt
  unfold putH VecWindow.put
  by_cases hk : (y 0).val / 16 = k.val
  · rw [if_pos hk, dif_pos (by
      intro a
      fin_cases a
      · show 16 * k.val ≤ (y 0).val ∧ (y 0).val < 16 * k.val + 16
        omega
      · show 0 ≤ (y 1).val ∧ (y 1).val < 0 + 512
        omega)]
    refine congrArg p ?_
    funext a
    refine Fin.ext ?_
    fin_cases a
    · show (y 0).val - 16 * k.val = (y 0).val % 16
      omega
    · rfl
  · rw [if_neg hk, dif_neg (by
      intro hall
      have h1 : 16 * k.val ≤ (y 0).val ∧ (y 0).val < 16 * k.val + 16 := hall 0
      omega)]

theorem putY_apply (Y : Vec F S16x16x512 .f32) (k : Fin 16) (h : FVec F S16x512 .f32) (y : S16x16x512.Idx) :
    putY Y k (shapeCast S1x16x512 h shapeCasts_S16x512_S1x16x512) y = if (y 0).val = k.val then h (ix2 (y 1) (y 2)) else Y y := by
  have h0 : (y 0).val < 16 := (y 0).isLt
  have h1 : (y 1).val < 16 := (y 1).isLt
  have h2 : (y 2).val < 512 := (y 2).isLt
  unfold putY VecWindow.put
  by_cases hk : (y 0).val = k.val
  · rw [if_pos hk, dif_pos (by
      intro a
      fin_cases a
      · show k.val ≤ (y 0).val ∧ (y 0).val < k.val + 1
        omega
      · show 0 ≤ (y 1).val ∧ (y 1).val < 0 + 16
        omega
      · show 0 ≤ (y 2).val ∧ (y 2).val < 0 + 512
        omega)]
    refine Eq.trans (congrArg (toF h) ?_) (toF_apply h 0 (y 1) (y 2))
    funext a
    refine Fin.ext ?_
    fin_cases a
    · show (y 0).val - k.val = 0
      omega
    · rfl
    · rfl
  · rw [if_neg hk, dif_neg (by
      intro hall
      have h1 : k.val ≤ (y 0).val ∧ (y 0).val < k.val + 1 := hall 0
      omega)]

theorem cond1_iff (i : grid0.Coords) : k0_cond1 i = 1#1 ↔ (i 0).val = 0 := by
  unfold k0_cond1
  have h : ∀ q : Fin 33, (Scalar.cmpi .ne (Scalar.extui (Scalar.cmpi .eq (BitVec.ofNat 32 q.val) 0#32) : BitVec 32) 0#32 : BitVec 1) = 1#1 ↔ q.val = 0 := by decide +kernel
  exact h (i 0)

theorem cond2_iff (i : grid0.Coords) : cond2 i = 1#1 ↔ (i 0).val = 1 := by
  unfold cond2
  have h : ∀ q : Fin 33, (Scalar.cmpi .ne (Scalar.extui (Scalar.cmpi .eq (BitVec.ofNat 32 q.val) 1#32) : BitVec 32) 0#32 : BitVec 1) = 1#1 ↔ q.val = 1 := by decide +kernel
  exact h (i 0)

theorem cond3_iff (i : grid0.Coords) : k0_cond3 i = 1#1 ↔ (i 0).val ≤ 31 := by
  unfold k0_cond3
  have h : ∀ q : Fin 33, (Scalar.cmpi .ne (Scalar.extui (Scalar.cmpi .slt (BitVec.ofNat 32 q.val) 32#32) : BitVec 32) 0#32 : BitVec 1) = 1#1 ↔ q.val ≤ 31 := by decide +kernel
  exact h (i 0)

theorem cond4_iff (i : grid0.Coords) : k0_cond4 i = 1#1 ↔ 1 ≤ (i 0).val := by
  unfold k0_cond4
  have h : ∀ q : Fin 33, (Scalar.cmpi .ne (Scalar.extui (Scalar.cmpi .sgt (BitVec.ofNat 32 q.val) 0#32) : BitVec 32) 0#32 : BitVec 1) = 1#1 ↔ 1 ≤ q.val := by decide +kernel
  exact h (i 0)

/-- The inputs' buffers at grid point `t`. -/
structure Holds (t : ℕ) (v : Vals F) : Prop where
  x : v.x = I.xb (min t 31)
  msk : v.msk = I.msk
  hc : v.hc = I.hc
  wi0 : v.wi0 = I.wi0
  wh0 : v.wh0 = I.wh0
  wi1 : v.wi1 = I.wi1
  wh1 : v.wh1 = I.wh1
  b0 : v.b0 = I.b0
  b1 : v.b1 = I.b1

/-- The buffers after grid point `t`. -/
structure Inv (t : ℕ) (v : Vals F) : Prop where
  fn : v.fn = FN I (16 * (min t 31 + 1)) (16 * t)
  hs : t ≤ 31 → v.hs = HS I t
  ma : t ≤ 31 → v.ma = proj (S0 I (16 * (t + 1))).1 (rowM I.msk (16 * (t + 1))) I.wh0
  mb : 1 ≤ t → v.mb = proj (S1 I (16 * t)).1 (rowM I.msk (16 * t)) I.wh1

/-- The buffers before the steps of grid point `t`. -/
structure Mid (t : ℕ) (v : Vals F) : Prop where
  ins : Holds I t v
  fn : v.fn = FN I (16 * t) (16 * (t - 1))
  g0 : t ≤ 31 → v.g0 = addG0 (matG0 (I.xb t) I.wi0) I.b0
  g1 : 1 ≤ t → v.g1 = preG1 (HS I (t - 1)) I.wi1 I.b1
  ma : t ≤ 31 → v.ma = proj (S0 I (16 * t)).1 (rowM I.msk (16 * t)) I.wh0
  mb : 1 ≤ t → v.mb = proj (S1 I (16 * (t - 1))).1 (rowM I.msk (16 * (t - 1))) I.wh1

theorem holds_head0 (i : grid0.Coords) (t : ℕ) (v : Vals F) (h : Holds I t v) : Holds I t (head0V i v) := by
  unfold head0V init0V
  split
  · exact ⟨h.x, h.msk, h.hc, h.wi0, h.wh0, h.wi1, h.wh1, h.b0, h.b1⟩
  · exact h

theorem holds_head1 (i : grid0.Coords) (t : ℕ) (v : Vals F) (h : Holds I t v) : Holds I t (head1V i v) := by
  unfold head1V init1V
  split
  · exact ⟨h.x, h.msk, h.hc, h.wi0, h.wh0, h.wi1, h.wh1, h.b0, h.b1⟩
  · exact h

/-- The initial states, packed, are the ones given. -/
theorem fn_zero : FN I 0 0 = I.hc := by
  refine fn_ext _ _ fun r => ?_
  rw [unF_FN]
  fin_cases r <;> rfl

theorem midV_eq (i : grid0.Coords) (v w : Vals F) (hw : head1V i (head0V i v) = w) : midV i v = pre2V (matG0 w.x w.wi0) w.b0 (preV w) := by
  subst hw; rfl

theorem fn_init0 (v : Vals F) : (init0V v).fn = v.hc := rfl
theorem ma_init0 (v : Vals F) : (init0V v).ma = proj (unF (rowF v.hc 0)) (rowM v.msk 0) v.wh0 := rfl
theorem mb_init1 (v : Vals F) : (init1V v).mb = proj (unF (rowF v.fn 1)) (rowM v.msk 0) v.wh1 := rfl
theorem fn_init1 (v : Vals F) : (init1V v).fn = v.fn := rfl
theorem hs_init1 (v : Vals F) : (init1V v).hs = v.hs := rfl
theorem ma_init1 (v : Vals F) : (init1V v).ma = v.ma := rfl
theorem s0_zero : (S0 I 0).1 = unF (rowF I.hc 0) := rfl
theorem s1_zero : (S1 I 0).1 = unF (rowF I.hc 1) := rfl

/-- From the buffers after the two initialisations to those before the steps. -/
theorem mid_of (t : ℕ) (w : Vals F) (h : Holds I t w) (hfn : w.fn = FN I (16 * t) (16 * (t - 1))) (hhs : 1 ≤ t → w.hs = HS I (t - 1))
    (hma : t ≤ 31 → w.ma = proj (S0 I (16 * t)).1 (rowM I.msk (16 * t)) I.wh0)
    (hmb : 1 ≤ t → w.mb = proj (S1 I (16 * (t - 1))).1 (rowM I.msk (16 * (t - 1))) I.wh1) : Mid I t (pre2V (matG0 w.x w.wi0) w.b0 (preV w)) where
  ins := ⟨h.x, h.msk, h.hc, h.wi0, h.wh0, h.wi1, h.wh1, h.b0, h.b1⟩
  fn := hfn
  g0 := fun h31 => by
    show addG0 (matG0 w.x w.wi0) w.b0 = _
    rw [h.x, h.wi0, h.b0, Nat.min_eq_left h31]
  g1 := fun h1 => by
    show preG1 w.hs w.wi1 w.b1 = _
    rw [hhs h1, h.wi1, h.b1]
  ma := hma
  mb := hmb

theorem mid_zero (i : grid0.Coords) (hi : (i 0).val = 0) (v : Vals F) (h : Holds I 0 v) : Mid I 0 (midV i v) := by
  have e0 : head0V i v = init0V v := if_pos ((cond1_iff i).2 hi)
  have e1 : head1V i (init0V v) = init0V v := if_neg (fun hh => by have := (cond2_iff i).1 hh; omega)
  rw [midV_eq i v (init0V v) (by rw [e0, e1])]
  refine mid_of I 0 (init0V v) ⟨h.x, h.msk, h.hc, h.wi0, h.wh0, h.wi1, h.wh1, h.b0, h.b1⟩ ?_ (by omega) ?_ (by omega)
  · rw [Nat.mul_zero, fn_zero, fn_init0, h.hc]
  · intro _
    rw [Nat.mul_zero, s0_zero, ma_init0, h.hc, h.msk, h.wh0]

theorem mid_succ (i : grid0.Coords) (t : ℕ) (hi : (i 0).val = t + 1) (v : Vals F) (h : Holds I (t + 1) v) (p : Inv I t v) : Mid I (t + 1) (midV i v) := by
  have ht : t + 1 < 33 := by have : (i 0).val < 33 := (i 0).isLt; omega
  have e0 : head0V i v = v := if_neg (fun hh => by have := (cond1_iff i).1 hh; omega)
  have hfn : v.fn = FN I (16 * (t + 1)) (16 * t) := by
    rw [p.fn, Nat.min_eq_left (by omega : t ≤ 31)]
  rw [midV_eq i v (head1V i v) (by rw [e0])]
  refine mid_of I (t + 1) _ (holds_head1 I i (t + 1) v h) ?_ ?_ ?_ ?_
  · rw [Nat.add_sub_cancel, ← hfn]
    unfold head1V; split
    · exact fn_init1 v
    · rfl
  · intro _
    rw [Nat.add_sub_cancel, ← p.hs (by omega)]
    unfold head1V; split
    · exact hs_init1 v
    · rfl
  · intro _
    rw [← p.ma (by omega)]
    unfold head1V; split
    · exact ma_init1 v
    · rfl
  · intro _
    rw [Nat.add_sub_cancel]
    by_cases h1 : (i 0).val = 1
    · have e1 : head1V i v = init1V v := if_pos ((cond2_iff i).2 h1)
      have t0 : t = 0 := by omega
      subst t0
      rw [e1, mb_init1, hfn, unF_FN, h.msk, h.wh1, rowQ_1, Nat.mul_zero]
    · have e1 : head1V i v = v := if_neg (fun hh => h1 ((cond2_iff i).1 hh))
      rw [e1]
      exact p.mb (by omega)

/-- The part of the buffers the steps leave alone. -/
structure Same (u v : Vals F) : Prop where
  x : v.x = u.x
  msk : v.msk = u.msk
  hc : v.hc = u.hc
  wi0 : v.wi0 = u.wi0
  wh0 : v.wh0 = u.wh0
  wi1 : v.wi1 = u.wi1
  wh1 : v.wh1 = u.wh1
  b0 : v.b0 = u.b0
  b1 : v.b1 = u.b1
  fn : v.fn = u.fn
  g0 : v.g0 = u.g0
  g1 : v.g1 = u.g1

/-- The first layer after `j` of a point's steps. -/
structure At0 (t j : ℕ) (v : Vals F) (r : HC F) : Prop where
  ma : v.ma = proj (S0 I (16 * t + j)).1 (rowM I.msk (16 * t + j)) I.wh0
  c : r.2.1 = (S0 I (16 * t + j)).2
  h : 1 ≤ j → r.1 = (S0 I (16 * t + j)).1
  hs : ∀ y : S256x512.Idx, (y 0).val / 16 < j → v.hs y = HS I t y

/-- The second layer after `j` of a point's steps. -/
structure At1 (t j : ℕ) (v : Vals F) (r : HC F) : Prop where
  mb : v.mb = proj (S1 I (16 * t + j)).1 (rowM I.msk (16 * t + j)) I.wh1
  c : r.2.2.2 = (S1 I (16 * t + j)).2
  h : 1 ≤ j → r.2.2.1 = (S1 I (16 * t + j)).1
  ys : ∀ y : S16x16x512.Idx, (y 0).val < j → v.ys y = YS I t y

/-- What holds before the steps and is kept by each holds after the sixteen. -/
theorem run_ind (i : grid0.Coords) (P : ℕ → Vals F → HC F → Prop)
    (h : ∀ (k : Fin 16) v r, P k.val v r → P (k.val + 1) (stepV i k v (stepR i k v r.2.1 r.2.2.2)) (stepR i k v r.2.1 r.2.2.2))
    (v : Vals F) (r : HC F) (h0 : P 0 v r) : P 16 (runV i ks16 v r).1 (runV i ks16 v r).2 := by
  have gen : ∀ (ks : List (Fin 16)) (j : ℕ) (hk : ks.map Fin.val = List.range' j ks.length) v r, P j v r → P (j + ks.length) (runV i ks v r).1 (runV i ks v r).2 := by
    intro ks
    induction ks with
    | nil => intro j _ v r hp; exact hp
    | cons k ks ih =>
      intro j hk v r hp
      rw [List.map_cons, List.length_cons, List.range'_succ, List.cons.injEq] at hk
      obtain ⟨e, hk⟩ := hk
      subst e
      have := ih (k.val + 1) hk _ _ (h k v r hp)
      rw [List.length_cons, ← Nat.add_assoc, Nat.add_right_comm]
      exact this
  exact gen ks16 0 (by decide) v r h0

theorem kf_mul (t : ℕ) (k : Fin 16) : kf (16 * t + k.val) = k := Fin.ext (by show (16 * t + k.val) % 16 = k.val; have := k.isLt; omega)

theorem div_mul (t : ℕ) (k : Fin 16) : (16 * t + k.val) / 16 = t := by have := k.isLt; omega

theorem at0_step (i : grid0.Coords) (t : ℕ) (hi : (i 0).val = t) (ht : t ≤ 31) (u : Vals F) (hu : Mid I t u) (k : Fin 16) (v : Vals F) (r : HC F)
    (hs : Same u v) (h : At0 I t k.val v r) : At0 I t (k.val + 1) (stepV i k v (stepR i k v r.2.1 r.2.2.2)) (stepR i k v r.2.1 r.2.2.2) := by
  have hn : n0 i k = 16 * t + k.val := by unfold n0; rw [hi, Nat.min_eq_left ht]
  have hg : rows16 v.g0 k = G0 I (16 * t + k.val) := by
    unfold G0
    rw [kf_mul, div_mul, hs.g0, hu.g0 ht]
  have e : ((stepR i k v r.2.1 r.2.2.2).1, (stepR i k v r.2.1 r.2.2.2).2.1) = S0 I (16 * t + (k.val + 1)) := by
    show _ = lay _ _ _ _ _ (16 * t + k.val + 1)
    unfold lay stepR
    show (cellH (addf (rows16 v.g0 k) v.ma) _, _) = _
    rw [hg, h.ma, h.c, hn, hs.msk, hu.ins.msk]
    rfl
  have e1 : (stepR i k v r.2.1 r.2.2.2).1 = (S0 I (16 * t + (k.val + 1))).1 := congrArg Prod.fst e
  refine ⟨?_, congrArg Prod.snd e, fun _ => e1, ?_⟩
  · show proj (stepR i k v r.2.1 r.2.2.2).1 (rowM v.msk (n0 i k + 1)) v.wh0 = _
    rw [e1, hn, hs.msk, hu.ins.msk, hs.wh0, hu.ins.wh0]
    rfl
  · intro y hy
    show putH v.hs k (packH (stepR i k v r.2.1 r.2.2.2).1) y = _
    rw [putH_apply]
    split
    · next hk =>
      rw [e1]
      unfold HS
      rw [hk]
      rfl
    · next hk => exact h.hs y (by omega)

theorem at1_step (i : grid0.Coords) (t : ℕ) (hi : (i 0).val = t + 1) (u : Vals F) (hu : Mid I (t + 1) u) (k : Fin 16) (v : Vals F) (r : HC F)
    (hs : Same u v) (h : At1 I t k.val v r) : At1 I t (k.val + 1) (stepV i k v (stepR i k v r.2.1 r.2.2.2)) (stepR i k v r.2.1 r.2.2.2) := by
  have hn : n1 i k = 16 * t + k.val := by unfold n1; rw [hi]; rfl
  have hg : rows16 v.g1 k = G1 I (16 * t + k.val) := by
    unfold G1
    rw [kf_mul, div_mul, hs.g1, hu.g1 (by omega)]
    rfl
  have e : ((stepR i k v r.2.1 r.2.2.2).2.2.1, (stepR i k v r.2.1 r.2.2.2).2.2.2) = S1 I (16 * t + (k.val + 1)) := by
    show _ = lay _ _ _ _ _ (16 * t + k.val + 1)
    unfold lay stepR
    show (cellH (addf (rows16 v.g1 k) v.mb) _, _) = _
    rw [hg, h.mb, h.c, hn, hs.msk, hu.ins.msk]
    rfl
  have e1 : (stepR i k v r.2.1 r.2.2.2).2.2.1 = (S1 I (16 * t + (k.val + 1))).1 := congrArg Prod.fst e
  refine ⟨?_, congrArg Prod.snd e, fun _ => e1, ?_⟩
  · show proj (stepR i k v r.2.1 r.2.2.2).2.2.1 (rowM v.msk (n1 i k + 1)) v.wh1 = _
    rw [e1, hn, hs.msk, hu.ins.msk, hs.wh1, hu.ins.wh1]
    rfl
  · intro y hy
    show putY v.ys k (shapeCast S1x16x512 (stepR i k v r.2.1 r.2.2.2).2.2.1 shapeCasts_S16x512_S1x16x512) y = _
    rw [putY_apply]
    split
    · next hk =>
      rw [e1]
      unfold YS
      rw [hk]
      rfl
    · next hk => exact h.ys y (by omega)

theorem same_step (i : grid0.Coords) (u : Vals F) (k : Fin 16) (v : Vals F) (r : HC F) (hs : Same u v) : Same u (stepV i k v r) :=
  ⟨hs.x, hs.msk, hs.hc, hs.wi0, hs.wh0, hs.wi1, hs.wh1, hs.b0, hs.b1, hs.fn, hs.g0, hs.g1⟩

theorem same_refl (u : Vals F) : Same u u := ⟨rfl, rfl, rfl, rfl, rfl, rfl, rfl, rfl, rfl, rfl, rfl, rfl⟩

/-- The buffers and the states after a point's sixteen steps. -/
theorem run_at (i : grid0.Coords) (t : ℕ) (hi : (i 0).val = t) (u : Vals F) (hu : Mid I t u) :
    Same u (runV i ks16 u (startR u)).1
    ∧ (t ≤ 31 → At0 I t 16 (runV i ks16 u (startR u)).1 (runV i ks16 u (startR u)).2)
    ∧ (1 ≤ t → At1 I (t - 1) 16 (runV i ks16 u (startR u)).1 (runV i ks16 u (startR u)).2) := by
  have efn : ∀ r, unF (rowF u.fn r) = rowQ I (16 * t) (16 * (t - 1)) r := by
    intro r; rw [hu.fn, unF_FN]
  refine run_ind i (fun j v r => Same u v ∧ (t ≤ 31 → At0 I t j v r) ∧ (1 ≤ t → At1 I (t - 1) j v r)) ?_ u (startR u) ?_
  · rintro k v r ⟨hs, h0, h1⟩
    refine ⟨same_step i u k v _ hs, fun ht => at0_step I i t hi ht u hu k v r hs (h0 ht), fun ht => ?_⟩
    obtain ⟨t', rfl⟩ : ∃ t', t = t' + 1 := ⟨t - 1, by omega⟩
    exact at1_step I i t' hi u hu k v r hs (h1 ht)
  · refine ⟨same_refl u, fun ht => ⟨hu.ma ht, ?_, by omega, fun y hy => by omega⟩, fun ht => ⟨hu.mb ht, ?_, by omega, fun y hy => by omega⟩⟩
    · exact efn 2
    · exact efn 3

/-- What the first layer's write-back leaves in the packed states. -/
theorem tail0_fn (i : grid0.Coords) (t : ℕ) (hi : (i 0).val = t) (ht : t < 33) (u v : Vals F) (r : HC F) (hfn : v.fn = FN I (16 * t) (16 * (t - 1)))
    (h0 : t ≤ 31 → At0 I t 16 v r) : (tail0V i r v).fn = FN I (16 * (min t 31 + 1)) (16 * (t - 1)) := by
  have c3 := cond3_iff i
  rw [hi] at c3
  by_cases h31 : t ≤ 31
  · have a0 := h0 h31
    have ah := a0.h (by omega)
    have ac := a0.c
    have e16 : 16 * t + 16 = 16 * (t + 1) := by omega
    rw [e16] at ah ac
    have e : tail0V i r v = fin0V r v := if_pos (c3.2 h31)
    have e' : (fin0V r v).fn = putS (putS v.fn 0 (toF r.1)) 2 (toF r.2.1) := rfl
    rw [e, e', hfn, Nat.min_eq_left h31]
    refine fn_ext _ _ (fin4 ?_ ?_ ?_ ?_)
    · rw [putS_other _ 2 0 (by decide), putS_same _ 0, unF_FN, rowQ_0, ah]
    · rw [putS_other _ 2 1 (by decide), putS_other _ 0 1 (by decide), unF_FN, unF_FN, rowQ_1, rowQ_1]
    · rw [putS_same _ 2, unF_FN, rowQ_2, ac]
    · rw [putS_other _ 2 3 (by decide), putS_other _ 0 3 (by decide), unF_FN, unF_FN, rowQ_3, rowQ_3]
  · have e : tail0V i r v = v := if_neg (fun hh => h31 (c3.1 hh))
    have e16 : 16 * t = 16 * (min t 31 + 1) := by omega
    rw [e, hfn, ← e16]

/-- What the second layer's write-back leaves in the packed states. -/
theorem tail1_fn (i : grid0.Coords) (t p : ℕ) (hi : (i 0).val = t) (v w : Vals F) (r : HC F) (hfn : w.fn = FN I p (16 * (t - 1)))
    (h1 : 1 ≤ t → At1 I (t - 1) 16 v r) : (tail1V i r w).fn = FN I p (16 * t) := by
  have c4 := cond4_iff i
  rw [hi] at c4
  by_cases h1t : 1 ≤ t
  · have a1 := h1 h1t
    have ah := a1.h (by omega)
    have ac := a1.c
    have e16 : 16 * (t - 1) + 16 = 16 * t := by omega
    rw [e16] at ah ac
    have e : tail1V i r w = fin1V r w := if_pos (c4.2 h1t)
    have e' : (fin1V r w).fn = putS (putS w.fn 1 (toF r.2.2.1)) 3 (toF r.2.2.2) := rfl
    rw [e, e', hfn]
    refine fn_ext _ _ (fin4 ?_ ?_ ?_ ?_)
    · rw [putS_other _ 3 0 (by decide), putS_other _ 1 0 (by decide), unF_FN, unF_FN, rowQ_0, rowQ_0]
    · rw [putS_other _ 3 1 (by decide), putS_same _ 1, unF_FN, rowQ_1, ah]
    · rw [putS_other _ 3 2 (by decide), putS_other _ 1 2 (by decide), unF_FN, unF_FN, rowQ_2, rowQ_2]
    · rw [putS_same _ 3, unF_FN, rowQ_3, ac]
  · have e : tail1V i r w = w := if_neg (fun hh => h1t (c4.1 hh))
    have e16 : 16 * (t - 1) = 16 * t := by omega
    rw [e, hfn, e16]

/-- The write-backs touch the packed states alone. -/
theorem tail_keeps {α : Type} (f : Vals F → α) (hf : ∀ w z, f { w with fn := z } = f w) (i : grid0.Coords) (r : HC F) (v : Vals F) :
    f (tail1V i r (tail0V i r v)) = f v := by
  have e0 : f (tail0V i r v) = f v := by
    unfold tail0V; split
    · exact hf _ _
    · rfl
  rw [← e0]
  generalize tail0V i r v = w
  unfold tail1V; split
  · exact hf _ _
  · rfl

theorem tail_inv (i : grid0.Coords) (t : ℕ) (hi : (i 0).val = t) (ht : t < 33) (u v : Vals F) (r : HC F) (hu : Mid I t u) (hs : Same u v)
    (h0 : t ≤ 31 → At0 I t 16 v r) (h1 : 1 ≤ t → At1 I (t - 1) 16 v r) :
    Holds I t (tail1V i r (tail0V i r v)) ∧ Inv I t (tail1V i r (tail0V i r v)) ∧ (1 ≤ t → (tail1V i r (tail0V i r v)).ys = YS I (t - 1)) := by
  have ef : (tail1V i r (tail0V i r v)).fn = FN I (16 * (min t 31 + 1)) (16 * t) :=
    tail1_fn I i t _ hi v _ r (tail0_fn I i t hi ht u v r (hs.fn.trans hu.fn) h0) h1
  refine ⟨⟨?_, ?_, ?_, ?_, ?_, ?_, ?_, ?_, ?_⟩, ⟨ef, ?_, ?_, ?_⟩, ?_⟩
  · rw [tail_keeps Vals.x fun _ _ => rfl, hs.x, hu.ins.x]
  · rw [tail_keeps Vals.msk fun _ _ => rfl, hs.msk, hu.ins.msk]
  · rw [tail_keeps Vals.hc fun _ _ => rfl, hs.hc, hu.ins.hc]
  · rw [tail_keeps Vals.wi0 fun _ _ => rfl, hs.wi0, hu.ins.wi0]
  · rw [tail_keeps Vals.wh0 fun _ _ => rfl, hs.wh0, hu.ins.wh0]
  · rw [tail_keeps Vals.wi1 fun _ _ => rfl, hs.wi1, hu.ins.wi1]
  · rw [tail_keeps Vals.wh1 fun _ _ => rfl, hs.wh1, hu.ins.wh1]
  · rw [tail_keeps Vals.b0 fun _ _ => rfl, hs.b0, hu.ins.b0]
  · rw [tail_keeps Vals.b1 fun _ _ => rfl, hs.b1, hu.ins.b1]
  · intro h31
    rw [tail_keeps Vals.hs fun _ _ => rfl]
    funext y
    have h256 : (y 0).val < 256 := (y 0).isLt
    exact (h0 h31).hs y (by omega)
  · intro h31
    have e16 : 16 * t + 16 = 16 * (t + 1) := by omega
    rw [tail_keeps Vals.ma fun _ _ => rfl, (h0 h31).ma, e16]
  · intro h1t
    have e16 : 16 * (t - 1) + 16 = 16 * t := by omega
    rw [tail_keeps Vals.mb fun _ _ => rfl, (h1 h1t).mb, e16]
  · intro h1t
    rw [tail_keeps Vals.ys fun _ _ => rfl]
    funext y
    exact (h1 h1t).ys y (y 0).isLt

/-- One grid point's body, from the buffers the point before left. -/
theorem body_inv (i : grid0.Coords) (t : ℕ) (hi : (i 0).val = t) (v : Vals F) (h : Holds I t v) (p : ∀ s, t = s + 1 → Inv I s v) :
    Holds I t (bodyV i v) ∧ Inv I t (bodyV i v) ∧ (1 ≤ t → (bodyV i v).ys = YS I (t - 1)) := by
  have ht : t < 33 := by have : (i 0).val < 33 := (i 0).isLt; omega
  have hu : Mid I t (midV i v) := by
    cases t with
    | zero => exact mid_zero I i hi v h
    | succ s => exact mid_succ I i s hi v h (p s rfl)
  obtain ⟨hs, h0, h1⟩ := run_at I i t hi _ hu
  exact tail_inv I i t hi ht _ _ _ hu hs h0 h1

end Cert.KernelIdeal.Hand

end
-- ==== Proof.KI.Win.lean ====
/- What the pipeline's windows hold at each grid point. -/
module

public import proofs.«01_k».proof.Proof.KI.Inv
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.DatRel
public import Idealize.ShloMosaic.Lib.Pipeline.ArrRel
public import Idealize.ShloMosaic.Lib.Pipeline.Covers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ (UR sig nD τ) ℕ

variable (m : (ℓ : Loc nD τ sig) → Buf (Elt F) ℓ) (ρ : Dev nD → PrngReg) (c : Dev nD)

/-- A chunk of the input. -/
def chunk (X : Vec F S512x16x512 .f32) (n : ℕ) : Vec F S16x16x512 .f32 :=
  fun y => X (ix3 ⟨(16 * n + (y 0).val) % 512, Nat.mod_lt _ (by decide)⟩ (y 1) (y 2))

/-- What the kernel reads on a core. -/
def ins : Ins F where
  xb := chunk (V m c main_v0)
  msk := V m c main_v8
  hc := V m c main_arg1
  wi0 := V m c main_v10
  wh0 := V m c main_v12
  wi1 := V m c main_v14
  wh1 := V m c main_v16
  b0 := V m c main_v18
  b1 := V m c main_v20

theorem index0_0 (t : Fin cfg0.N) : win0_0.index t = ![min t.val 31, 0, 0] :=
  (by decide +kernel : ∀ t : Fin grid0.N, win0_0.index t = ![min t.val 31, 0, 0]) t

theorem coords_eq (t : Fin cfg0.N) : (grid0.coords t 0).val = t.val :=
  (by decide +kernel : ∀ t : Fin grid0.N, (grid0.coords t 0).val = t.val) t

theorem pt_lt (t : Fin cfg0.N) : t.val < 33 := t.isLt

theorem iblk_0 (t : Fin cfg0.N) : iblk m c 0 t = chunk (V m c main_v0) (min t.val 31) := by
  funext z
  show V m c main_v0 (((cfg0.win 0).blk t).view.emb z) = V m c main_v0 (ix3 _ (z 1) (z 2))
  have e0 : win0_0.index t (0 : Fin 3) = min t.val 31 := congrFun (index0_0 t) 0
  have e1 : win0_0.index t (1 : Fin 3) = 0 := congrFun (index0_0 t) 1
  have e2 : win0_0.index t (2 : Fin 3) = 0 := congrFun (index0_0 t) 2
  have hz : (z 0).val < 16 := (z 0).isLt
  refine congrArg (V m c main_v0) (funext fun a => Fin.ext ?_)
  match a with
  | ⟨0, _⟩ => show win0_0.index t (0 : Fin 3) * 16 + 1 * (z 0).val = (16 * min t.val 31 + (z 0).val) % 512; omega
  | ⟨1, _⟩ => show win0_0.index t (1 : Fin 3) * 16 + 1 * (z 1).val = (z 1).val; omega
  | ⟨2, _⟩ => show win0_0.index t (2 : Fin 3) * 512 + 1 * (z 2).val = (z 2).val; omega

theorem index0_1 (t : Fin cfg0.N) : win0_1.index t = fun _ => 0 :=
  (by decide +kernel : ∀ t : Fin grid0.N, win0_1.index t = fun _ => 0) t

theorem read_1 (t : Fin cfg0.N) (X : Vec F S520x16x128 .f32) : ((cfg0.win 1).blk t).view.read (Elt F) X = X := by
  funext z
  show X (((cfg0.win 1).blk t).view.emb z) = X z
  have e : ∀ a, win0_1.index t a = 0 := fun a => congrFun (index0_1 t) a
  refine congrArg X (funext fun a => Fin.ext ?_)
  match a with
  | ⟨0, h⟩ => show win0_1.index t ⟨0, h⟩ * 520 + 1 * (z ⟨0, h⟩).val = (z ⟨0, h⟩).val; rw [e]; omega
  | ⟨1, h⟩ => show win0_1.index t ⟨1, h⟩ * 16 + 1 * (z ⟨1, h⟩).val = (z ⟨1, h⟩).val; rw [e]; omega
  | ⟨2, h⟩ => show win0_1.index t ⟨2, h⟩ * 128 + 1 * (z ⟨2, h⟩).val = (z ⟨2, h⟩).val; rw [e]; omega

theorem iblk_1 (t : Fin cfg0.N) : iblk m c 1 t = V m c main_v8 := by
  unfold iblk
  exact read_1 t (V m c main_v8)

theorem index0_2 (t : Fin cfg0.N) : win0_2.index t = fun _ => 0 :=
  (by decide +kernel : ∀ t : Fin grid0.N, win0_2.index t = fun _ => 0) t

theorem read_2 (t : Fin cfg0.N) (X : Vec F S4x16x512 .f32) : ((cfg0.win 2).blk t).view.read (Elt F) X = X := by
  funext z
  show X (((cfg0.win 2).blk t).view.emb z) = X z
  have e : ∀ a, win0_2.index t a = 0 := fun a => congrFun (index0_2 t) a
  refine congrArg X (funext fun a => Fin.ext ?_)
  match a with
  | ⟨0, h⟩ => show win0_2.index t ⟨0, h⟩ * 4 + 1 * (z ⟨0, h⟩).val = (z ⟨0, h⟩).val; rw [e]; omega
  | ⟨1, h⟩ => show win0_2.index t ⟨1, h⟩ * 16 + 1 * (z ⟨1, h⟩).val = (z ⟨1, h⟩).val; rw [e]; omega
  | ⟨2, h⟩ => show win0_2.index t ⟨2, h⟩ * 512 + 1 * (z ⟨2, h⟩).val = (z ⟨2, h⟩).val; rw [e]; omega

theorem iblk_2 (t : Fin cfg0.N) : iblk m c 2 t = V m c main_arg1 := by
  unfold iblk
  exact read_2 t (V m c main_arg1)

theorem index0_3 (t : Fin cfg0.N) : win0_3.index t = fun _ => 0 :=
  (by decide +kernel : ∀ t : Fin grid0.N, win0_3.index t = fun _ => 0) t

theorem read_3 (t : Fin cfg0.N) (X : Vec F S512x2048 .bf16) : ((cfg0.win 3).blk t).view.read (Elt F) X = X := by
  funext z
  show X (((cfg0.win 3).blk t).view.emb z) = X z
  have e : ∀ a, win0_3.index t a = 0 := fun a => congrFun (index0_3 t) a
  refine congrArg X (funext fun a => Fin.ext ?_)
  match a with
  | ⟨0, h⟩ => show win0_3.index t ⟨0, h⟩ * 512 + 1 * (z ⟨0, h⟩).val = (z ⟨0, h⟩).val; rw [e]; omega
  | ⟨1, h⟩ => show win0_3.index t ⟨1, h⟩ * 2048 + 1 * (z ⟨1, h⟩).val = (z ⟨1, h⟩).val; rw [e]; omega

theorem iblk_3 (t : Fin cfg0.N) : iblk m c 3 t = V m c main_v10 := by
  unfold iblk
  exact read_3 t (V m c main_v10)

theorem index0_4 (t : Fin cfg0.N) : win0_4.index t = fun _ => 0 :=
  (by decide +kernel : ∀ t : Fin grid0.N, win0_4.index t = fun _ => 0) t

theorem read_4 (t : Fin cfg0.N) (X : Vec F S512x2048 .bf16) : ((cfg0.win 4).blk t).view.read (Elt F) X = X := by
  funext z
  show X (((cfg0.win 4).blk t).view.emb z) = X z
  have e : ∀ a, win0_4.index t a = 0 := fun a => congrFun (index0_4 t) a
  refine congrArg X (funext fun a => Fin.ext ?_)
  match a with
  | ⟨0, h⟩ => show win0_4.index t ⟨0, h⟩ * 512 + 1 * (z ⟨0, h⟩).val = (z ⟨0, h⟩).val; rw [e]; omega
  | ⟨1, h⟩ => show win0_4.index t ⟨1, h⟩ * 2048 + 1 * (z ⟨1, h⟩).val = (z ⟨1, h⟩).val; rw [e]; omega

theorem iblk_4 (t : Fin cfg0.N) : iblk m c 4 t = V m c main_v12 := by
  unfold iblk
  exact read_4 t (V m c main_v12)

theorem index0_5 (t : Fin cfg0.N) : win0_5.index t = fun _ => 0 :=
  (by decide +kernel : ∀ t : Fin grid0.N, win0_5.index t = fun _ => 0) t

theorem read_5 (t : Fin cfg0.N) (X : Vec F S512x2048 .bf16) : ((cfg0.win 5).blk t).view.read (Elt F) X = X := by
  funext z
  show X (((cfg0.win 5).blk t).view.emb z) = X z
  have e : ∀ a, win0_5.index t a = 0 := fun a => congrFun (index0_5 t) a
  refine congrArg X (funext fun a => Fin.ext ?_)
  match a with
  | ⟨0, h⟩ => show win0_5.index t ⟨0, h⟩ * 512 + 1 * (z ⟨0, h⟩).val = (z ⟨0, h⟩).val; rw [e]; omega
  | ⟨1, h⟩ => show win0_5.index t ⟨1, h⟩ * 2048 + 1 * (z ⟨1, h⟩).val = (z ⟨1, h⟩).val; rw [e]; omega

theorem iblk_5 (t : Fin cfg0.N) : iblk m c 5 t = V m c main_v14 := by
  unfold iblk
  exact read_5 t (V m c main_v14)

theorem index0_6 (t : Fin cfg0.N) : win0_6.index t = fun _ => 0 :=
  (by decide +kernel : ∀ t : Fin grid0.N, win0_6.index t = fun _ => 0) t

theorem read_6 (t : Fin cfg0.N) (X : Vec F S512x2048 .bf16) : ((cfg0.win 6).blk t).view.read (Elt F) X = X := by
  funext z
  show X (((cfg0.win 6).blk t).view.emb z) = X z
  have e : ∀ a, win0_6.index t a = 0 := fun a => congrFun (index0_6 t) a
  refine congrArg X (funext fun a => Fin.ext ?_)
  match a with
  | ⟨0, h⟩ => show win0_6.index t ⟨0, h⟩ * 512 + 1 * (z ⟨0, h⟩).val = (z ⟨0, h⟩).val; rw [e]; omega
  | ⟨1, h⟩ => show win0_6.index t ⟨1, h⟩ * 2048 + 1 * (z ⟨1, h⟩).val = (z ⟨1, h⟩).val; rw [e]; omega

theorem iblk_6 (t : Fin cfg0.N) : iblk m c 6 t = V m c main_v16 := by
  unfold iblk
  exact read_6 t (V m c main_v16)

theorem index0_7 (t : Fin cfg0.N) : win0_7.index t = fun _ => 0 :=
  (by decide +kernel : ∀ t : Fin grid0.N, win0_7.index t = fun _ => 0) t

theorem read_7 (t : Fin cfg0.N) (X : Vec F S1x2048 .f32) : ((cfg0.win 7).blk t).view.read (Elt F) X = X := by
  funext z
  show X (((cfg0.win 7).blk t).view.emb z) = X z
  have e : ∀ a, win0_7.index t a = 0 := fun a => congrFun (index0_7 t) a
  refine congrArg X (funext fun a => Fin.ext ?_)
  match a with
  | ⟨0, h⟩ => show win0_7.index t ⟨0, h⟩ * 1 + 1 * (z ⟨0, h⟩).val = (z ⟨0, h⟩).val; rw [e]; omega
  | ⟨1, h⟩ => show win0_7.index t ⟨1, h⟩ * 2048 + 1 * (z ⟨1, h⟩).val = (z ⟨1, h⟩).val; rw [e]; omega

theorem iblk_7 (t : Fin cfg0.N) : iblk m c 7 t = V m c main_v18 := by
  unfold iblk
  exact read_7 t (V m c main_v18)

theorem index0_8 (t : Fin cfg0.N) : win0_8.index t = fun _ => 0 :=
  (by decide +kernel : ∀ t : Fin grid0.N, win0_8.index t = fun _ => 0) t

theorem read_8 (t : Fin cfg0.N) (X : Vec F S1x2048 .f32) : ((cfg0.win 8).blk t).view.read (Elt F) X = X := by
  funext z
  show X (((cfg0.win 8).blk t).view.emb z) = X z
  have e : ∀ a, win0_8.index t a = 0 := fun a => congrFun (index0_8 t) a
  refine congrArg X (funext fun a => Fin.ext ?_)
  match a with
  | ⟨0, h⟩ => show win0_8.index t ⟨0, h⟩ * 1 + 1 * (z ⟨0, h⟩).val = (z ⟨0, h⟩).val; rw [e]; omega
  | ⟨1, h⟩ => show win0_8.index t ⟨1, h⟩ * 2048 + 1 * (z ⟨1, h⟩).val = (z ⟨1, h⟩).val; rw [e]; omega

theorem iblk_8 (t : Fin cfg0.N) : iblk m c 8 t = V m c main_v20 := by
  unfold iblk
  exact read_8 t (V m c main_v20)

end Cert.KernelIdeal.Hand

end
-- ==== Proof.KI.Run.lean ====
/- The launch: what the pipeline's windows hold at each grid point, the run, and what it leaves. -/
module

public import proofs.«01_k».proof.Proof.KI.Win
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.DatRel
public import Idealize.ShloMosaic.Lib.Pipeline.ArrRel
public import Idealize.ShloMosaic.Lib.Pipeline.Covers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ (UR sig nD τ) ℕ

variable (m : (ℓ : Loc nD τ sig) → Buf (Elt F) ℓ) (ρ : Dev nD → PrngReg) (c : Dev nD)

/-- What the scratch buffers carry from one point to the next. -/
structure Sc (I : Ins F) (t : ℕ) (hs : Vec F S256x512 .bf16) (ma mb : Vec F S16x2048 .f32) : Prop where
  hs : ∀ s, t = s + 1 → s ≤ 31 → hs = HS I s
  ma : ∀ s, t = s + 1 → s ≤ 31 → ma = proj (S0 I (16 * (s + 1))).1 (rowM I.msk (16 * (s + 1))) I.wh0
  mb : ∀ s, t = s + 1 → 1 ≤ s → mb = proj (S1 I (16 * s)).1 (rowM I.msk (16 * s)) I.wh1

/-- The scratch buffers, held. -/
def scr (g0 g1 : Vec F S256x2048 .f32) (hs : Vec F S256x512 .bf16) (ma mb : Vec F S16x2048 .f32) : sProp 𝕄 :=
  iprop(owns (c : Thread nD τ) (Memref.whole cc0_scratch0) fullShare g0 ∗ owns (c : Thread nD τ) (Memref.whole cc0_scratch1) fullShare g1
    ∗ owns (c : Thread nD τ) (Memref.whole cc0_scratch2) fullShare hs ∗ owns (c : Thread nD τ) (Memref.whole cc0_scratch3) fullShare ma
    ∗ owns (c : Thread nD τ) (Memref.whole cc0_scratch4) fullShare mb)

/-- The body's invariant before point `t`. -/
def Phi (t : ℕ) : sProp 𝕄 :=
  iprop((∃ g0 g1 hs ma mb, ⌜Sc (ins m c) t hs ma mb⌝ ∗ scr c g0 g1 hs ma mb) ∗ ∃ r, prngReg c r)

/-- The windows' contents after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => YS (ins m c) (t.val - 1)
    | ⟨10, _⟩ => FN (ins m c) (16 * (min t.val 31 + 1)) (16 * t.val)
  Φ t := Phi m c t.val
  q _ := fullShare
  owed _ := 0

/-- The two results' windows are held to what the body leaves: of the hidden states the first point leaves anything. -/
def fgt : Fin cfg0.W → Bool := fun w => Nat.ble 9 w.val
def Rl (c : Dev nD) (w : Fin cfg0.W) (t : Fin cfg0.N) : ((cfg0.win w).block.Idx → Elt F (cfg0.win w).elt) → Prop :=
  match w with
  | ⟨9, _⟩ => fun (X : Vec F S16x16x512 .f32) => 1 ≤ t.val → X = YS (ins m c) (t.val - 1)
  | ⟨10, _⟩ => fun (X : Vec F S4x16x512 .f32) => X = FN (ins m c) (16 * (min t.val 31 + 1)) (16 * t.val)
  | _ => fun _ => True

/-- The proof data of the run. -/
abbrev rdat (c : Dev nD) := (dats m 0 c).toRRel fgt (Rl m c)

theorem A_eq (w : Fin cfg0.W) : (dats m 0 c).A w = V m c (Pipeline.arrRef spec0 w) := by
  dsimp only [dats]
theorem blk_0 (t : Fin cfg0.N) : iblk m c 0 t = (ins m c).xb (min t.val 31) := by
  rw [iblk_0]
  dsimp only [ins]
theorem after0_0 (t : Fin cfg0.N) : (dats m 0 c).after 0 t = iblk m c 0 t := by dsimp only [dats]
theorem before0_0 (t : Fin cfg0.N) (d) : (dats m 0 c).before 0 t d = (ins m c).xb (min t.val 31) :=
  (before0_0_of m (dats m 0 c) (A_eq m c 0) (after0_0 m c) t d).trans (blk_0 m c t)
theorem blk_1 (t : Fin cfg0.N) : iblk m c 1 t = (ins m c).msk := by
  rw [iblk_1]
  dsimp only [ins]
theorem after0_1 (t : Fin cfg0.N) : (dats m 0 c).after 1 t = iblk m c 1 t := by dsimp only [dats]
theorem before0_1 (t : Fin cfg0.N) (d) : (dats m 0 c).before 1 t d = (ins m c).msk :=
  (before0_1_of m (dats m 0 c) (A_eq m c 1) (after0_1 m c) t d).trans (blk_1 m c t)
theorem blk_2 (t : Fin cfg0.N) : iblk m c 2 t = (ins m c).hc := by
  rw [iblk_2]
  dsimp only [ins]
theorem after0_2 (t : Fin cfg0.N) : (dats m 0 c).after 2 t = iblk m c 2 t := by dsimp only [dats]
theorem before0_2 (t : Fin cfg0.N) (d) : (dats m 0 c).before 2 t d = (ins m c).hc :=
  (before0_2_of m (dats m 0 c) (A_eq m c 2) (after0_2 m c) t d).trans (blk_2 m c t)
theorem blk_3 (t : Fin cfg0.N) : iblk m c 3 t = (ins m c).wi0 := by
  rw [iblk_3]
  dsimp only [ins]
theorem after0_3 (t : Fin cfg0.N) : (dats m 0 c).after 3 t = iblk m c 3 t := by dsimp only [dats]
theorem before0_3 (t : Fin cfg0.N) (d) : (dats m 0 c).before 3 t d = (ins m c).wi0 :=
  (before0_3_of m (dats m 0 c) (A_eq m c 3) (after0_3 m c) t d).trans (blk_3 m c t)
theorem blk_4 (t : Fin cfg0.N) : iblk m c 4 t = (ins m c).wh0 := by
  rw [iblk_4]
  dsimp only [ins]
theorem after0_4 (t : Fin cfg0.N) : (dats m 0 c).after 4 t = iblk m c 4 t := by dsimp only [dats]
theorem before0_4 (t : Fin cfg0.N) (d) : (dats m 0 c).before 4 t d = (ins m c).wh0 :=
  (before0_4_of m (dats m 0 c) (A_eq m c 4) (after0_4 m c) t d).trans (blk_4 m c t)
theorem blk_5 (t : Fin cfg0.N) : iblk m c 5 t = (ins m c).wi1 := by
  rw [iblk_5]
  dsimp only [ins]
theorem after0_5 (t : Fin cfg0.N) : (dats m 0 c).after 5 t = iblk m c 5 t := by dsimp only [dats]
theorem before0_5 (t : Fin cfg0.N) (d) : (dats m 0 c).before 5 t d = (ins m c).wi1 :=
  (before0_5_of m (dats m 0 c) (A_eq m c 5) (after0_5 m c) t d).trans (blk_5 m c t)
theorem blk_6 (t : Fin cfg0.N) : iblk m c 6 t = (ins m c).wh1 := by
  rw [iblk_6]
  dsimp only [ins]
theorem after0_6 (t : Fin cfg0.N) : (dats m 0 c).after 6 t = iblk m c 6 t := by dsimp only [dats]
theorem before0_6 (t : Fin cfg0.N) (d) : (dats m 0 c).before 6 t d = (ins m c).wh1 :=
  (before0_6_of m (dats m 0 c) (A_eq m c 6) (after0_6 m c) t d).trans (blk_6 m c t)
theorem blk_7 (t : Fin cfg0.N) : iblk m c 7 t = (ins m c).b0 := by
  rw [iblk_7]
  dsimp only [ins]
theorem after0_7 (t : Fin cfg0.N) : (dats m 0 c).after 7 t = iblk m c 7 t := by dsimp only [dats]
theorem before0_7 (t : Fin cfg0.N) (d) : (dats m 0 c).before 7 t d = (ins m c).b0 :=
  (before0_7_of m (dats m 0 c) (A_eq m c 7) (after0_7 m c) t d).trans (blk_7 m c t)
theorem blk_8 (t : Fin cfg0.N) : iblk m c 8 t = (ins m c).b1 := by
  rw [iblk_8]
  dsimp only [ins]
theorem after0_8 (t : Fin cfg0.N) : (dats m 0 c).after 8 t = iblk m c 8 t := by dsimp only [dats]
theorem before0_8 (t : Fin cfg0.N) (d) : (dats m 0 c).before 8 t d = (ins m c).b1 :=
  (before0_8_of m (dats m 0 c) (A_eq m c 8) (after0_8 m c) t d).trans (blk_8 m c t)
theorem rl_9 (t : Fin cfg0.N) (X : Vec F S16x16x512 .f32) : Rl m c 9 t X = (1 ≤ t.val → X = YS (ins m c) (t.val - 1)) := rfl
theorem rl_10 (t : Fin cfg0.N) (X : Vec F S4x16x512 .f32) : Rl m c 10 t X = (X = FN (ins m c) (16 * (min t.val 31 + 1)) (16 * t.val)) := rfl

/-- The packed states' window keeps what the point before left. -/
theorem finds_10 (t : Fin cfg0.N) (s : ℕ) (ht : t.val = s + 1) (X : Vec F S4x16x512 .f32) (h : (rdat m c).Finds 10 t X) :
    X = FN (ins m c) (16 * (min s 31 + 1)) (16 * s) := by
  have h33 := pt_lt t
  rcases ((rdat m c).finds_of_pos ((cfg0.win 10).fetch_out rfl t) (by omega) X).1 h with hh | hh
  · exfalso
    have h3 : (t.val - 1) % 33 = 32 := (flush0_10 ⟨t.val - 1, Nat.lt_of_le_of_lt (Nat.sub_le _ _) t.isLt⟩).1 hh
    omega
  · have e := (dats m 0 c).toRRel_leaves (Rl := Rl m c) (fgt := fgt) (w := 10) rfl hh
    rw [rl_10] at e
    rw [e]
    show FN (ins m c) (16 * (min (t.val - 1) 31 + 1)) (16 * (t.val - 1)) = _
    rw [ht, Nat.add_sub_cancel]

/-- The buffers as point `t` finds them. -/
def found (I : Ins F) (t : ℕ) (y : Vec F S16x16x512 .f32) (f : Vec F S4x16x512 .f32) (g0 g1 : Vec F S256x2048 .f32) (hs : Vec F S256x512 .bf16) (ma mb : Vec F S16x2048 .f32) : Vals F :=
  ⟨I.xb (min t 31), I.msk, I.hc, I.wi0, I.wh0, I.wi1, I.wh1, I.b0, I.b1, y, f, g0, g1, hs, ma, mb⟩

theorem found_holds (I : Ins F) (t : ℕ) (y f g0 g1 hs ma mb) : Holds I t (found I t y f g0 g1 hs ma mb) :=
  ⟨rfl, rfl, rfl, rfl, rfl, rfl, rfl, rfl, rfl⟩

theorem found_inv (I : Ins F) (t : ℕ) (y f g0 g1 hs ma mb) (hsc : Sc I t hs ma mb)
    (hf : ∀ s, t = s + 1 → f = FN I (16 * (min s 31 + 1)) (16 * s)) (s : ℕ) (ht : t = s + 1) : Inv I s (found I t y f g0 g1 hs ma mb) :=
  ⟨hf s ht, hsc.hs s ht, hsc.ma s ht, hsc.mb s ht⟩

theorem inv_sc (I : Ins F) (t : ℕ) (v : Vals F) (h : Inv I t v) : Sc I (t + 1) v.hs v.ma v.mb where
  hs := fun s e h31 => by obtain rfl : t = s := by omega
                          exact h.hs h31
  ma := fun s e h31 => by obtain rfl : t = s := by omega
                          exact h.ma h31
  mb := fun s e h1 => by obtain rfl : t = s := by omega
                         exact h.mb h1

def bodyPre (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))
def bodyPost (t : Fin cfg0.N) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rl m c 9 t X⌝ ∗ owns (c : Thread nD τ) (st0_9 t) fullShare X)
    ∗ (∃ X, ⌜Rl m c 10 t X⌝ ∗ owns (c : Thread nD τ) (st0_10 t) fullShare X))

theorem sound_body (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [body_eq]
  unfold Phi
  iintro ⟨⟨⟨%g0, %g1, %hs, %ma, %mb, %hsc, Hscr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, -, H9⟩, ⟨%Z, %hZ, H10⟩⟩
  unfold scr
  icases Hscr with ⟨HA, HB, HC, HD, HE⟩
  have hf : ∀ s, t.val = s + 1 → Z = FN (ins m c) (16 * (min s 31 + 1)) (16 * s) := fun s e => finds_10 m c t s e Z hZ
  obtain ⟨r1, r2, r3⟩ := body_inv (ins m c) (grid0.coords t) t.val (coords_eq t) (found (ins m c) t.val Y Z g0 g1 hs ma mb)
    (found_holds (ins m c) t.val Y _ g0 g1 hs ma mb) (found_inv (ins m c) t.val Y _ g0 g1 hs ma mb hsc hf)
  iapply (body_triple c (grid0.coords t) (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.isWhole_whole _) (Memref.whole cc0_scratch3) (Memref.whole cc0_scratch4) (found (ins m c) t.val Y Z g0 g1 hs ma mb) _)
  isplitl [H0 H1 H2 H3 H4 H5 H6 H7 H8 H9 H10 HA HB HC HD HE]
  · unfold held
    dsimp only [found]
    isplitl [H0]; · rw [before0_0]; iexact H0
    isplitl [H1]; · rw [before0_1]; iexact H1
    isplitl [H2]; · rw [before0_2]; iexact H2
    isplitl [H3]; · rw [before0_3]; iexact H3
    isplitl [H4]; · rw [before0_4]; iexact H4
    isplitl [H5]; · rw [before0_5]; iexact H5
    isplitl [H6]; · rw [before0_6]; iexact H6
    isplitl [H7]; · rw [before0_7]; iexact H7
    isplitl [H8]; · rw [before0_8]; iexact H8
    isplitl [H9]; · iexact H9
    isplitl [H10]; · iexact H10
    isplitl [HA]; · iexact HA
    isplitl [HB]; · iexact HB
    isplitl [HC]; · iexact HC
    isplitl [HD]; · iexact HD
    iexact HE
  generalize bodyV (grid0.coords t) (found (ins m c) t.val Y Z g0 g1 hs ma mb) = v at r1 r2 r3
  unfold held
  iintro ⟨H0, H1, H2, H3, H4, H5, H6, H7, H8, H9, H10, HA, HB, HC, HD, HE⟩
  isplitl [Hg HA HB HC HD HE]
  · isplitl [HA HB HC HD HE]
    · iexists v.g0, v.g1, v.hs, v.ma, v.mb
      isplitr; · ipureintro; exact inv_sc _ _ v r2
      isplitl [HA]; · iexact HA
      isplitl [HB]; · iexact HB
      isplitl [HC]; · iexact HC
      isplitl [HD]; · iexact HD
      iexact HE
    iexact Hg
  isplitl [Ho]; · iexact Ho
  isplitl [H0]; · rw [after0_0, blk_0, ← r1.x]; iexact H0
  isplitl [H1]; · rw [after0_1, blk_1, ← r1.msk]; iexact H1
  isplitl [H2]; · rw [after0_2, blk_2, ← r1.hc]; iexact H2
  isplitl [H3]; · rw [after0_3, blk_3, ← r1.wi0]; iexact H3
  isplitl [H4]; · rw [after0_4, blk_4, ← r1.wh0]; iexact H4
  isplitl [H5]; · rw [after0_5, blk_5, ← r1.wi1]; iexact H5
  isplitl [H6]; · rw [after0_6, blk_6, ← r1.wh1]; iexact H6
  isplitl [H7]; · rw [after0_7, blk_7, ← r1.b0]; iexact H7
  isplitl [H8]; · rw [after0_8, blk_8, ← r1.b1]; iexact H8
  isplitl [H9]
  · iexists v.ys
    isplitr
    · ipureintro
      exact r3
    iexact H9
  iexists v.fn
  isplitr
  · ipureintro
    exact r2.fn
  iexact H10

theorem defs₀_row (t : Fin cfg0.N) : defs₀ (F := F) .tc cfg0.body (cfg0.bodyArgs t (cfg0.slots t)) = bodyAt0 t := by
  unfold defs₀; rw [Defs.onTc_tc]

theorem body_obligation : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The scratch buffers at the start hold anything. -/
theorem phi_in : (Pipeline.ΦA spec0 c : sProp 𝕄) ⊢ (dats m 0 c).Φ 0 := by
  show _ ⊢ Phi m c 0
  unfold Pipeline.ΦA Phi scr
  rw [scopedRest0_eq]
  iintro ⟨⟨⟨%f0, H0⟩, ⟨%f1, H1⟩, ⟨%f2, H2⟩, ⟨%f3, H3⟩, ⟨%f4, H4⟩⟩, Hg⟩
  isplitl [H0 H1 H2 H3 H4]
  · iexists f0, f1, f2, f3, f4
    isplitr
    · ipureintro
      exact ⟨fun s e => by omega, fun s e => by omega, fun s e => by omega⟩
    rw [owns_whole, owns_whole, owns_whole, owns_whole, owns_whole]
    isplitl [H0]; · iexact H0
    isplitl [H1]; · iexact H1
    isplitl [H2]; · iexact H2
    isplitl [H3]; · iexact H3
    iexact H4
  iexact Hg

theorem phi_out : (dats m 0 c).Φ (Fin.last cfg0.N) ⊢ (Pipeline.ΦA spec0 c : sProp 𝕄) := by
  show Phi m c (Fin.last cfg0.N).val ⊢ _
  unfold Pipeline.ΦA Phi scr
  rw [scopedRest0_eq]
  iintro ⟨⟨%g0, %g1, %hs, %ma, %mb, -, Hscr⟩, Hg⟩
  rw [owns_whole, owns_whole, owns_whole, owns_whole, owns_whole]
  icases Hscr with ⟨H0, H1, H2, H3, H4⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := fun c w => A_eq m c w)
    (hin := phi_in m) (hout := phi_out m)

end Cert.KernelIdeal.Hand

end
-- ==== Proof.KI.Out.lean ====
/- What the run leaves in the two result arrays, and the arguments unchanged. -/
module

public import proofs.«01_k».proof.Proof.KI.Run
public import Idealize.ShloMosaic.Lib.VecWindow
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.DatRel
public import Idealize.ShloMosaic.Lib.Pipeline.ArrRel
public import Idealize.ShloMosaic.Lib.Pipeline.ValueKit
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ) (ρ : Dev nD → PrngReg) (c : Dev nD)

/-- The hidden states of all steps. -/
def ysArr (I : Ins F) : Vec F S512x16x512 .f32 :=
  fun z => YS I ((z 0).val / 16) (ValueIdx.ix3 ⟨(z 0).val % 16, Nat.mod_lt _ (by decide)⟩ (z 1) (z 2))

theorem ysArr_at (I : Ins F) (z : S512x16x512.Idx) (y : S16x16x512.Idx) (n : ℕ) (h0 : (z 0).val = 16 * n + (y 0).val)
    (h1 : (z 1).val = (y 1).val) (h2 : (z 2).val = (y 2).val) : ysArr I z = YS I n y := by
  have hy : (y 0).val < 16 := (y 0).isLt
  have e : (z 0).val / 16 = n := by omega
  unfold ysArr
  rw [e]
  refine congrArg (YS I n) (funext fun a => Fin.ext ?_)
  match a with
  | ⟨0, _⟩ => show (z 0).val % 16 = (y 0).val; omega
  | ⟨1, _⟩ => exact h1
  | ⟨2, _⟩ => exact h2

theorem flush0_9 (t : Fin cfg0.N) : (cfg0.win 9).flush t = true → 1 ≤ t.val :=
  (by decide +kernel : ∀ t : Fin grid0.N, win0_9.flush t = true → 1 ≤ t.val) t

theorem index0_9 (t : Fin cfg0.N) : win0_9.index t = ![t.val - 1, 0, 0] :=
  (by decide +kernel : ∀ t : Fin grid0.N, win0_9.index t = ![t.val - 1, 0, 0]) t

theorem index0_10 (t : Fin cfg0.N) : win0_10.index t = fun _ => 0 :=
  (by decide +kernel : ∀ t : Fin grid0.N, win0_10.index t = fun _ => 0) t

theorem ysArr_emb (I : Ins F) (t : Fin cfg0.N) (y : S16x16x512.Idx) :
    ysArr I (((cfg0.win 9).blk t).view.emb y) = YS I (t.val - 1) y := by
  have e0 : win0_9.index t (0 : Fin 3) = t.val - 1 := congrFun (index0_9 t) 0
  have e1 : win0_9.index t (1 : Fin 3) = 0 := congrFun (index0_9 t) 1
  have e2 : win0_9.index t (2 : Fin 3) = 0 := congrFun (index0_9 t) 2
  refine ysArr_at I _ y _ ?_ ?_ ?_
  · show win0_9.index t (0 : Fin 3) * 16 + 1 * (y 0).val = _; omega
  · show win0_9.index t (1 : Fin 3) * 16 + 1 * (y 1).val = _; omega
  · show win0_9.index t (2 : Fin 3) * 512 + 1 * (y 2).val = _; omega

theorem emb_10 (t : Fin cfg0.N) (y : S4x16x512.Idx) : ((cfg0.win 10).blk t).view.emb y = y := by
  have e : ∀ a, win0_10.index t a = 0 := fun a => congrFun (index0_10 t) a
  refine funext fun a => Fin.ext ?_
  match a with
  | ⟨0, h⟩ => show win0_10.index t ⟨0, h⟩ * 4 + 1 * (y ⟨0, h⟩).val = (y ⟨0, h⟩).val; rw [e]; omega
  | ⟨1, h⟩ => show win0_10.index t ⟨1, h⟩ * 16 + 1 * (y ⟨1, h⟩).val = (y ⟨1, h⟩).val; rw [e]; omega
  | ⟨2, h⟩ => show win0_10.index t ⟨2, h⟩ * 512 + 1 * (y ⟨2, h⟩).val = (y ⟨2, h⟩).val; rw [e]; omega

theorem leaves_9 (t : Fin cfg0.N) (X : Vec F S16x16x512 .f32) (ht : 1 ≤ t.val) (h : (rdat m c).Leaves 9 t X) : X = YS (ins m c) (t.val - 1) := by
  have e := (dats m 0 c).toRRel_leaves (Rl := Rl m c) (fgt := fgt) (w := 9) rfl h
  rw [rl_9] at e
  exact e ht

theorem leaves_10 (t : Fin cfg0.N) (X : Vec F S4x16x512 .f32) (ht : t.val = 32) (h : (rdat m c).Leaves 10 t X) : X = FN (ins m c) 512 512 := by
  have e := (dats m 0 c).toRRel_leaves (Rl := Rl m c) (fgt := fgt) (w := 10) rfl h
  rw [rl_10] at e
  have e1 : 16 * (min t.val 31 + 1) = 512 := by omega
  have e2 : 16 * t.val = 512 := by omega
  rw [e1, e2] at e
  exact e

variable {m} in
/-- The arrays after the run. -/
theorem post_out {r : PUnit × MemSt nD τ sig (Elt F)} (h : Pipeline.RDat.FramePost cfg0 (rdat m) (V m) r) :
    r.2.mem ((c : Thread nD τ).loc main_v21_0) = ysArr (ins m c) ∧ r.2.mem ((c : Thread nD τ).loc main_v21_1) = FN (ins m c) 512 512 := by
  obtain ⟨after, hL, hA⟩ := h.exists_exact c
  constructor
  · refine (hA 9).trans ?_
    refine ((rdat m c).withAfter after).arrAt_eq_of_covers 9 (ysArr (ins m c)) (by decide +kernel) fun t hf y => ?_
    have e := leaves_9 m c t (after 9 t) (flush0_9 t hf) (hL 9 t hf)
    exact (congrFun e y).trans (ysArr_emb (ins m c) t y).symm
  · refine (hA 10).trans ?_
    refine ((rdat m c).withAfter after).arrAt_eq_of_covers 10 (FN (ins m c) 512 512) (by decide +kernel) fun t hf y => ?_
    have h33 := pt_lt t
    have e := leaves_10 m c t (after 10 t) (by have h1 : t.val % 33 = 32 := (flush0_10 t).1 hf
                                               omega) (hL 10 t hf)
    exact (congrFun e y).trans (congrArg (FN (ins m c) 512 512) (emb_10 t y)).symm

variable {m} in
/-- The arguments after the run. -/
theorem post_args {r : PUnit × MemSt nD τ sig (Elt F)} (h : Pipeline.RDat.FramePost cfg0 (rdat m) (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  ⟨((h c).2 main_arg0 (Pipeline.mem_restRefs_of main_arg0 (by decide) (by decide))).trans (V_main_arg0 m c),
    (h.arr_in c 2 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The run leaves every argument and every semaphore counter as it found them. -/
theorem frame_run : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => post_args c h.1, h.2⟩) (run_main m ρ)

/-- The run's results, with the arguments unchanged. -/
theorem value_run : θ_run defs (onTc (τ := τ) (main (F := F))) ⟨m, fun _ => 0, ρ⟩
    (fun r => ∀ c : Dev nD, r.2.mem ((c.tc : Thread nD τ).loc main_v21_0) = ysArr (ins m c)
      ∧ r.2.mem ((c.tc : Thread nD τ).loc main_v21_1) = FN (ins m c) 512 512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(post_out c h.1).1, (post_out c h.1).2, post_args c h.1⟩) (run_main m ρ)

end Cert.KernelIdeal.Hand

end
-- ==== Proof.K.Same.lean ====
/- The frame of both printings of the kernel: they are one program. -/
module

public import proofs.«01_k».proof.Defs
public import proofs.«01_k».proof.Proof.Gen.Kernel
public import proofs.«01_k».proof.Proof.KI.Out

@[expose] public section

noncomputable section

namespace Cert.Hand

open Idealize.ShloMosaic Idealize.SL.Sem

theorem quiescent_ideal : Cert.quiescent_KernelIdeal := fun m g _ => Cert.KernelIdeal.Hand.frame_run m g

theorem quiescent_ideal_pre [Cert.Pre_no_wrap.Facts] : Cert.quiescent_KernelIdeal_pre_no_wrap := fun m g _ => Cert.KernelIdeal.Hand.frame_run m g

/-- The frame at the machine's words, as the idealised printing states it. -/
def FrameBits : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

theorem frameBits : FrameBits := fun m g _ => Cert.KernelIdeal.Hand.frame_run (F := Bits) m g

theorem frameBits_eq : FrameBits = Cert.quiescent_Kernel := by chain_rfl

theorem quiescent_bits : Cert.quiescent_Kernel := frameBits_eq ▸ frameBits

end Cert.Hand

end
-- ==== Proof.RI.Trips.lean ====
/- The reference's run stated over one step of its state: a valuation that holds a state and a step's number holds, after one
   trip of the loop, the next state and the next number; so the results are those of the step repeated 512 times.
   Follows the generated module of the same purpose; only the step of the outputs' array is proved differently. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v8_11) = s.main_v8_11
  f_12 : V0 (Proc.devRef .tc main_v8_12) = s.main_v8_12
  f_13 : V0 (Proc.devRef .tc main_v8_13) = s.main_v8_13
  f_0 : V0 (Proc.devRef .tc main_v8_0) = s.main_v8_0
  f_1 : V0 (Proc.devRef .tc main_v8_1) = s.main_v8_1
  f_2 : V0 (Proc.devRef .tc main_v8_2) = s.main_v8_2
  f_3 : V0 (Proc.devRef .tc main_v8_3) = s.main_v8_3
  f_4 : V0 (Proc.devRef .tc main_v8_4) = s.main_v8_4
  f_5 : V0 (Proc.devRef .tc main_v8_5) = s.main_v8_5
  f_6 : V0 (Proc.devRef .tc main_v8_6) = s.main_v8_6
  f_7 : V0 (Proc.devRef .tc main_v8_7) = s.main_v8_7
  f_8 : V0 (Proc.devRef .tc main_v8_8) = s.main_v8_8
  f_9 : V0 (Proc.devRef .tc main_v8_9) = s.main_v8_9
  n_10 : V0 (Proc.devRef .tc main_v8_10) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x16x512 (V0 (Proc.devRef .tc main_v8_0)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x512_S1x16x512 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_10]
  try rfl
set_option maxRecDepth 8192 in
theorem al_3 (h : Holds V0 s j) : (shapeCast S16x512 (Host.dynamicSlice S1x16x512 (V0 (Proc.devRef .tc main_v8_0)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x512_S1x16x512) shapeCasts_S1x16x512_S16x512 : (Proc.devRef .tc main_while0b_v10 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x16x1 (V0 (Proc.devRef .tc main_v8_1)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x1_S1x16x1 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_10]
  try rfl
set_option maxRecDepth 8192 in
theorem al_7 (h : Holds V0 s j) : (res_main_while0b_v11 V0 : (Proc.devRef .tc main_while0b_v11 : DevRef τ sig).ty.Contents (Elt F)) = Cert.ReferenceIdeal.Step.b7 j s := by
  unfold res_main_while0b_v11 Cert.ReferenceIdeal.Step.b7
  rw [← al_6 h]
  try rfl
set_option maxRecDepth 8192 in
theorem al_8 (h : Holds V0 s j) : (extractStridedSlice S1x16x512 ![0, 0, 0] (V0 (Proc.devRef .tc main_v8_11)) slices_S2x16x512_S1x16x512_0_0_0 : (Proc.devRef .tc main_while0b_v12 : DevRef τ sig).ty.Contents (Elt F)) = Cert.ReferenceIdeal.Step.b8 j s := by
  unfold Cert.ReferenceIdeal.Step.b8
  rw [h.f_11]
  try rfl
set_option maxRecDepth 8192 in
theorem al_9 (h : Holds V0 s j) : (shapeCast S16x512 (extractStridedSlice S1x16x512 ![0, 0, 0] (V0 (Proc.devRef .tc main_v8_11)) slices_S2x16x512_S1x16x512_0_0_0) shapeCasts_S1x16x512_S16x512 : (Proc.devRef .tc main_while0b_v13 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (broadcastInDim S16x512 ![0, 1] bcast_S16x1_S16x512_0_1 (res_main_while0b_v11 V0) : (Proc.devRef .tc main_while0b_v14 : DevRef τ sig).ty.Contents (Elt F)) = Cert.ReferenceIdeal.Step.b10 j s := by
  unfold Cert.ReferenceIdeal.Step.b10
  rw [← al_7 h]
  try rfl
set_option maxRecDepth 8192 in
theorem al_11 (h : Holds V0 s j) : (mulf (shapeCast S16x512 (extractStridedSlice S1x16x512 ![0, 0, 0] (V0 (Proc.devRef .tc main_v8_11)) slices_S2x16x512_S1x16x512_0_0_0) shapeCasts_S1x16x512_S16x512) (broadcastInDim S16x512 ![0, 1] bcast_S16x1_S16x512_0_1 (res_main_while0b_v11 V0)) : (Proc.devRef .tc main_while0b_v15 : DevRef τ sig).ty.Contents (Elt F)) = Cert.ReferenceIdeal.Step.b11 j s := by
  unfold Cert.ReferenceIdeal.Step.b11
  rw [← al_9 h, ← al_10 h]
  try rfl
set_option maxRecDepth 8192 in
theorem al_12 (h : Holds V0 s j) : (extractStridedSlice S1x16x512 ![0, 0, 0] (V0 (Proc.devRef .tc main_v8_12)) slices_S2x16x512_S1x16x512_0_0_0 : (Proc.devRef .tc main_while0b_v16 : DevRef τ sig).ty.Contents (Elt F)) = Cert.ReferenceIdeal.Step.b12 j s := by
  unfold Cert.ReferenceIdeal.Step.b12
  rw [h.f_12]
  try rfl
set_option maxRecDepth 8192 in
theorem al_13 (h : Holds V0 s j) : (shapeCast S16x512 (extractStridedSlice S1x16x512 ![0, 0, 0] (V0 (Proc.devRef .tc main_v8_12)) slices_S2x16x512_S1x16x512_0_0_0) shapeCasts_S1x16x512_S16x512 : (Proc.devRef .tc main_while0b_v17 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (broadcastInDim S16x512 ![0, 1] bcast_S16x1_S16x512_0_1 (res_main_while0b_v11 V0) : (Proc.devRef .tc main_while0b_v18 : DevRef τ sig).ty.Contents (Elt F)) = Cert.ReferenceIdeal.Step.b14 j s := by
  unfold Cert.ReferenceIdeal.Step.b14
  rw [← al_7 h]
  try rfl
set_option maxRecDepth 8192 in
theorem al_15 (h : Holds V0 s j) : (mulf (shapeCast S16x512 (extractStridedSlice S1x16x512 ![0, 0, 0] (V0 (Proc.devRef .tc main_v8_12)) slices_S2x16x512_S1x16x512_0_0_0) shapeCasts_S1x16x512_S16x512) (broadcastInDim S16x512 ![0, 1] bcast_S16x1_S16x512_0_1 (res_main_while0b_v11 V0)) : (Proc.devRef .tc main_while0b_v19 : DevRef τ sig).ty.Contents (Elt F)) = Cert.ReferenceIdeal.Step.b15 j s := by
  unfold Cert.ReferenceIdeal.Step.b15
  rw [← al_13 h, ← al_14 h]
  try rfl
set_option maxRecDepth 8192 in
theorem al_16 (h : Holds V0 s j) : (transpose S512x2048 [1, 0] (V0 (Proc.devRef .tc main_v8_2)) transposes_S2048x512_S512x2048_1_0 : (Proc.devRef .tc main_while0b_v20 : DevRef τ sig).ty.Contents (Elt F)) = Cert.ReferenceIdeal.Step.b16 j s := by
  unfold Cert.ReferenceIdeal.Step.b16
  rw [h.f_2]
  try rfl
set_option maxRecDepth 8192 in
theorem al_17 (h : Holds V0 s j) : (Host.dotGeneral dot_S16x512_S512x2048_S16x2048_1_0_0_1_n_n none (shapeCast S16x512 (Host.dynamicSlice S1x16x512 (V0 (Proc.devRef .tc main_v8_0)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x512_S1x16x512) shapeCasts_S1x16x512_S16x512) (transpose S512x2048 [1, 0] (V0 (Proc.devRef .tc main_v8_2)) transposes_S2048x512_S512x2048_1_0) : (Proc.devRef .tc main_while0b_v21 : DevRef τ sig).ty.Contents (Elt F)) = Cert.ReferenceIdeal.Step.b17 j s := by
  unfold Cert.ReferenceIdeal.Step.b17
  rw [← al_3 h, ← al_16 h]
  try rfl
set_option maxRecDepth 8192 in
theorem al_18 (h : Holds V0 s j) : (broadcastInDim S1x2048 ![1] bcast_S2048_S1x2048_1 (V0 (Proc.devRef .tc main_v8_3)) : (Proc.devRef .tc main_while0b_v22 : DevRef τ sig).ty.Contents (Elt F)) = Cert.ReferenceIdeal.Step.b18 j s := by
  unfold Cert.ReferenceIdeal.Step.b18
  rw [h.f_3]
  try rfl
set_option maxRecDepth 8192 in
theorem al_19 (h : Holds V0 s j) : (broadcastInDim S16x2048 ![0, 1] bcast_S1x2048_S16x2048_0_1 (broadcastInDim S1x2048 ![1] bcast_S2048_S1x2048_1 (V0 (Proc.devRef .tc main_v8_3))) : (Proc.devRef .tc main_while0b_v23 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (addf (Host.dotGeneral dot_S16x512_S512x2048_S16x2048_1_0_0_1_n_n none (shapeCast S16x512 (Host.dynamicSlice S1x16x512 (V0 (Proc.devRef .tc main_v8_0)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x512_S1x16x512) shapeCasts_S1x16x512_S16x512) (transpose S512x2048 [1, 0] (V0 (Proc.devRef .tc main_v8_2)) transposes_S2048x512_S512x2048_1_0)) (broadcastInDim S16x2048 ![0, 1] bcast_S1x2048_S16x2048_0_1 (broadcastInDim S1x2048 ![1] bcast_S2048_S1x2048_1 (V0 (Proc.devRef .tc main_v8_3)))) : (Proc.devRef .tc main_while0b_v24 : DevRef τ sig).ty.Contents (Elt F)) = Cert.ReferenceIdeal.Step.b20 j s := by
  unfold Cert.ReferenceIdeal.Step.b20
  rw [← al_17 h, ← al_19 h]
  try rfl
set_option maxRecDepth 8192 in
theorem al_21 (h : Holds V0 s j) : (transpose S512x2048 [1, 0] (V0 (Proc.devRef .tc main_v8_4)) transposes_S2048x512_S512x2048_1_0 : (Proc.devRef .tc main_while0b_v25 : DevRef τ sig).ty.Contents (Elt F)) = Cert.ReferenceIdeal.Step.b21 j s := by
  unfold Cert.ReferenceIdeal.Step.b21
  rw [h.f_4]
  try rfl
set_option maxRecDepth 8192 in
theorem al_22 (h : Holds V0 s j) : (Host.dotGeneral dot_S16x512_S512x2048_S16x2048_1_0_0_1_n_n none (mulf (shapeCast S16x512 (extractStridedSlice S1x16x512 ![0, 0, 0] (V0 (Proc.devRef .tc main_v8_11)) slices_S2x16x512_S1x16x512_0_0_0) shapeCasts_S1x16x512_S16x512) (broadcastInDim S16x512 ![0, 1] bcast_S16x1_S16x512_0_1 (res_main_while0b_v11 V0))) (transpose S512x2048 [1, 0] (V0 (Proc.devRef .tc main_v8_4)) transposes_S2048x512_S512x2048_1_0) : (Proc.devRef .tc main_while0b_v26 : DevRef τ sig).ty.Contents (Elt F)) = Cert.ReferenceIdeal.Step.b22 j s := by
  unfold Cert.ReferenceIdeal.Step.b22
  rw [← al_11 h, ← al_21 h]
  try rfl
set_option maxRecDepth 8192 in
theorem al_23 (h : Holds V0 s j) : (addf (addf (Host.dotGeneral dot_S16x512_S512x2048_S16x2048_1_0_0_1_n_n none (shapeCast S16x512 (Host.dynamicSlice S1x16x512 (V0 (Proc.devRef .tc main_v8_0)) (fun k => (((![V0 (Proc.devRef .tc main_v8_10), constantI S_ 32 0#32, constantI S_ 32 0#32] : Fin 3 → (⟨S_, .i32⟩ : BufTy).Contents (Elt F))) k (Shape.Idx.first h_S_)).toInt) sliceFits_S512x16x512_S1x16x512) shapeCasts_S1x16x512_S16x512) (transpose S512x2048 [1, 0] (V0 (Proc.devRef .tc main_v8_2)) transposes_S2048x512_S512x2048_1_0)) (broadcastInDim S16x2048 ![0, 1] bcast_S1x2048_S16x2048_0_1 (broadcastInDim S1x2048 ![1] bcast_S2048_S1x2048_1 (V0 (Proc.devRef .tc main_v8_3))))) (Host.dotGeneral dot_S16x512_S512x2048_S16x2048_1_0_0_1_n_n none (mulf (shapeCast S16x512 (extractStridedSlice S1x16x512 ![0, 0, 0] (V0 (Proc.devRef .tc main_v8_11)) slices_S2x16x512_S1x16x512_0_0_0) shapeCasts_S1x16x512_S16x512) (broadcastInDim S16x512 ![0, 1] bcast_S16x1_S16x512_0_1 (res_main_while0b_v11 V0))) (transpose S512x2048 [1, 0] (V0 (Proc.devRef .tc main_v8_4)) transposes_S2048x512_S512x2048_1_0)) : (Proc.devRef .tc main_while0b_v27 : DevRef τ sig).ty.Contents (Elt F)) = Cert.ReferenceIdeal.Step.b23 j s := by
  unfold Cert.ReferenceIdeal.Step.b23
  rw [← al_20 h, ← al_22 h]
  try rfl
set_option maxRecDepth 8192 in
theorem al_24 (h : Holds V0 s j) : (broadcastInDim S1x2048 ![1] bcast_S2048_S1x2048_1 (V0 (Proc.devRef .tc main_v8_5)) : (Proc.devRef .tc main_while0b_v28 : DevRef τ sig).ty.Contents (Elt F)) = Cert.ReferenceIdeal.Step.b24 j s := by
  unfold Cert.ReferenceIdeal.Step.b24
  rw [h.f_5]
  try rfl
set_option maxRecDepth 8192 in
theorem al_25 (h : Holds V0 s j) : (broadcastInDim S16x2048 ![0, 1] bcast_S1x2048_S16x2048_0_1 (broadcastInDim S1x2048 ![1] bcast_S2048_S1x2048_1 (V0 (Proc.devRef .tc main_v8_5))) : (Proc.devRef .tc main_while0b_v29 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v30 V0 : (Proc.devRef .tc main_while0b_v30 : DevRef τ sig).ty.Contents (Elt F)) = Cert.ReferenceIdeal.Step.b26 j s := by
  unfold res_main_while0b_v30 Cert.ReferenceIdeal.Step.b26
  rw [← al_23 h, ← al_25 h]
  try rfl
set_option maxRecDepth 8192 in
theorem al_27 (h : Holds V0 s j) : (extractStridedSlice S16x512 ![0, 0] (res_main_while0b_v30 V0) slices_S16x2048_S16x512_0_0 : (Proc.devRef .tc main_while0b_v31 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (extractStridedSlice S16x512 ![0, 512] (res_main_while0b_v30 V0) slices_S16x2048_S16x512_0_512 : (Proc.devRef .tc main_while0b_v32 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (extractStridedSlice S16x512 ![0, 1024] (res_main_while0b_v30 V0) slices_S16x2048_S16x512_0_1024 : (Proc.devRef .tc main_while0b_v33 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (extractStridedSlice S16x512 ![0, 1536] (res_main_while0b_v30 V0) slices_S16x2048_S16x512_0_1536 : (Proc.devRef .tc main_while0b_v34 : DevRef τ sig).ty.Contents (Elt F)) = Cert.ReferenceIdeal.Step.b30 j s := by
  unfold Cert.ReferenceIdeal.Step.b30
  rw [← al_26 h]
  try rfl
set_option maxRecDepth 8192 in
theorem al_31 (h : Holds V0 s j) : (Host.negf (extractStridedSlice S16x512 ![0, 0] (res_main_while0b_v30 V0) slices_S16x2048_S16x512_0_0) : (Proc.devRef .tc main_while0b_v35 : DevRef τ sig).ty.Contents (Elt F)) = Cert.ReferenceIdeal.Step.b31 j s := by
  unfold Cert.ReferenceIdeal.Step.b31
  rw [← al_27 h]
  try rfl
set_option maxRecDepth 8192 in
theorem al_32 (h : Holds V0 s j) : (Host.exp (Host.negf (extractStridedSlice S16x512 ![0, 0] (res_main_while0b_v30 V0) slices_S16x2048_S16x512_0_0)) : (Proc.devRef .tc main_while0b_v36 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (constant S_ .f32 0x3F800000#32 : (Proc.devRef .tc main_while0b_cst_14 : DevRef τ sig).ty.Contents (Elt F)) = Cert.ReferenceIdeal.Step.b33 j s := by
  unfold Cert.ReferenceIdeal.Step.b33
  rfl
set_option maxRecDepth 8192 in
theorem al_34 (h : Holds V0 s j) : (broadcastInDim S16x512 ![] bcast_S_S16x512 (constant S_ .f32 0x3F800000#32) : (Proc.devRef .tc main_while0b_v37 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addf (broadcastInDim S16x512 ![] bcast_S_S16x512 (constant S_ .f32 0x3F800000#32)) (Host.exp (Host.negf (extractStridedSlice S16x512 ![0, 0] (res_main_while0b_v30 V0) slices_S16x2048_S16x512_0_0))) : (Proc.devRef .tc main_while0b_v38 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (constant S_ .f32 0x3F800000#32 : (Proc.devRef .tc main_while0b_cst_15 : DevRef τ sig).ty.Contents (Elt F)) = Cert.ReferenceIdeal.Step.b36 j s := by
  unfold Cert.ReferenceIdeal.Step.b36
  rfl
set_option maxRecDepth 8192 in
theorem al_37 (h : Holds V0 s j) : (broadcastInDim S16x512 ![] bcast_S_S16x512 (constant S_ .f32 0x3F800000#32) : (Proc.devRef .tc main_while0b_v39 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 0] (res_main_while0b_v30 V0) slices_S16x2048_S16x512_0_0)))) : (Proc.devRef .tc main_while0b_v40 : DevRef τ sig).ty.Contents (Elt F)) = Cert.ReferenceIdeal.Step.b38 j s := by
  unfold Cert.ReferenceIdeal.Step.b38
  rw [← al_37 h, ← al_35 h]
  try rfl
set_option maxRecDepth 8192 in
theorem al_39 (h : Holds V0 s j) : (Host.negf (extractStridedSlice S16x512 ![0, 512] (res_main_while0b_v30 V0) slices_S16x2048_S16x512_0_512) : (Proc.devRef .tc main_while0b_v41 : DevRef τ sig).ty.Contents (Elt F)) = Cert.ReferenceIdeal.Step.b39 j s := by
  unfold Cert.ReferenceIdeal.Step.b39
  rw [← al_28 h]
  try rfl
set_option maxRecDepth 8192 in
theorem al_40 (h : Holds V0 s j) : (Host.exp (Host.negf (extractStridedSlice S16x512 ![0, 512] (res_main_while0b_v30 V0) slices_S16x2048_S16x512_0_512)) : (Proc.devRef .tc main_while0b_v42 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (constant S_ .f32 0x3F800000#32 : (Proc.devRef .tc main_while0b_cst_16 : DevRef τ sig).ty.Contents (Elt F)) = Cert.ReferenceIdeal.Step.b41 j s := by
  unfold Cert.ReferenceIdeal.Step.b41
  rfl
set_option maxRecDepth 8192 in
theorem al_42 (h : Holds V0 s j) : (broadcastInDim S16x512 ![] bcast_S_S16x512 (constant S_ .f32 0x3F800000#32) : (Proc.devRef .tc main_while0b_v43 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (broadcastInDim S16x512 ![] bcast_S_S16x512 (constant S_ .f32 0x3F800000#32)) (Host.exp (Host.negf (extractStridedSlice S16x512 ![0, 512] (res_main_while0b_v30 V0) slices_S16x2048_S16x512_0_512))) : (Proc.devRef .tc main_while0b_v44 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (constant S_ .f32 0x3F800000#32 : (Proc.devRef .tc main_while0b_cst_17 : DevRef τ sig).ty.Contents (Elt F)) = Cert.ReferenceIdeal.Step.b44 j s := by
  unfold Cert.ReferenceIdeal.Step.b44
  rfl
set_option maxRecDepth 8192 in
theorem al_45 (h : Holds V0 s j) : (broadcastInDim S16x512 ![] bcast_S_S16x512 (constant S_ .f32 0x3F800000#32) : (Proc.devRef .tc main_while0b_v45 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 512] (res_main_while0b_v30 V0) slices_S16x2048_S16x512_0_512)))) : (Proc.devRef .tc main_while0b_v46 : DevRef τ sig).ty.Contents (Elt F)) = Cert.ReferenceIdeal.Step.b46 j s := by
  unfold Cert.ReferenceIdeal.Step.b46
  rw [← al_45 h, ← al_43 h]
  try rfl
set_option maxRecDepth 8192 in
theorem al_47 (h : Holds V0 s j) : (Host.tanh (extractStridedSlice S16x512 ![0, 1024] (res_main_while0b_v30 V0) slices_S16x2048_S16x512_0_1024) : (Proc.devRef .tc main_while0b_v47 : DevRef τ sig).ty.Contents (Elt F)) = Cert.ReferenceIdeal.Step.b47 j s := by
  unfold Cert.ReferenceIdeal.Step.b47
  rw [← al_29 h]
  try rfl
set_option maxRecDepth 8192 in
theorem al_48 (h : Holds V0 s j) : (Host.negf (extractStridedSlice S16x512 ![0, 1536] (res_main_while0b_v30 V0) slices_S16x2048_S16x512_0_1536) : (Proc.devRef .tc main_while0b_v48 : DevRef τ sig).ty.Contents (Elt F)) = Cert.ReferenceIdeal.Step.b48 j s := by
  unfold Cert.ReferenceIdeal.Step.b48
  rw [← al_30 h]
  try rfl
set_option maxRecDepth 8192 in
theorem al_49 (h : Holds V0 s j) : (Host.exp (Host.negf (extractStridedSlice S16x512 ![0, 1536] (res_main_while0b_v30 V0) slices_S16x2048_S16x512_0_1536)) : (Proc.devRef .tc main_while0b_v49 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constant S_ .f32 0x3F800000#32 : (Proc.devRef .tc main_while0b_cst_18 : DevRef τ sig).ty.Contents (Elt F)) = Cert.ReferenceIdeal.Step.b50 j s := by
  unfold Cert.ReferenceIdeal.Step.b50
  rfl
set_option maxRecDepth 8192 in
theorem al_51 (h : Holds V0 s j) : (broadcastInDim S16x512 ![] bcast_S_S16x512 (constant S_ .f32 0x3F800000#32) : (Proc.devRef .tc main_while0b_v50 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (addf (broadcastInDim S16x512 ![] bcast_S_S16x512 (constant S_ .f32 0x3F800000#32)) (Host.exp (Host.negf (extractStridedSlice S16x512 ![0, 1536] (res_main_while0b_v30 V0) slices_S16x2048_S16x512_0_1536))) : (Proc.devRef .tc main_while0b_v51 : DevRef τ sig).ty.Contents (Elt F)) = Cert.ReferenceIdeal.Step.b52 j s := by
  unfold Cert.ReferenceIdeal.Step.b52
  rw [← al_51 h, ← al_49 h]
  try rfl
set_option maxRecDepth 8192 in
theorem al_53 (h : Holds V0 s j) : (constant S_ .f32 0x3F800000#32 : (Proc.devRef .tc main_while0b_cst_19 : DevRef τ sig).ty.Contents (Elt F)) = Cert.ReferenceIdeal.Step.b53 j s := by
  unfold Cert.ReferenceIdeal.Step.b53
  rfl
set_option maxRecDepth 8192 in
theorem al_54 (h : Holds V0 s j) : (broadcastInDim S16x512 ![] bcast_S_S16x512 (constant S_ .f32 0x3F800000#32) : (Proc.devRef .tc main_while0b_v52 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 1536] (res_main_while0b_v30 V0) slices_S16x2048_S16x512_0_1536)))) : (Proc.devRef .tc main_while0b_v53 : DevRef τ sig).ty.Contents (Elt F)) = Cert.ReferenceIdeal.Step.b55 j s := by
  unfold Cert.ReferenceIdeal.Step.b55
  rw [← al_54 h, ← al_52 h]
  try rfl
set_option maxRecDepth 8192 in
theorem al_56 (h : Holds V0 s j) : (mulf (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 512] (res_main_while0b_v30 V0) slices_S16x2048_S16x512_0_512))))) (mulf (shapeCast S16x512 (extractStridedSlice S1x16x512 ![0, 0, 0] (V0 (Proc.devRef .tc main_v8_12)) slices_S2x16x512_S1x16x512_0_0_0) shapeCasts_S1x16x512_S16x512) (broadcastInDim S16x512 ![0, 1] bcast_S16x1_S16x512_0_1 (res_main_while0b_v11 V0))) : (Proc.devRef .tc main_while0b_v54 : DevRef τ sig).ty.Contents (Elt F)) = Cert.ReferenceIdeal.Step.b56 j s := by
  unfold Cert.ReferenceIdeal.Step.b56
  rw [← al_46 h, ← al_15 h]
  try rfl
set_option maxRecDepth 8192 in
theorem al_57 (h : Holds V0 s j) : (mulf (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 0] (res_main_while0b_v30 V0) slices_S16x2048_S16x512_0_0))))) (Host.tanh (extractStridedSlice S16x512 ![0, 1024] (res_main_while0b_v30 V0) slices_S16x2048_S16x512_0_1024)) : (Proc.devRef .tc main_while0b_v55 : DevRef τ sig).ty.Contents (Elt F)) = Cert.ReferenceIdeal.Step.b57 j s := by
  unfold Cert.ReferenceIdeal.Step.b57
  rw [← al_38 h, ← al_47 h]
  try rfl
set_option maxRecDepth 8192 in
theorem al_58 (h : Holds V0 s j) : (res_main_while0b_v56 V0 : (Proc.devRef .tc main_while0b_v56 : DevRef τ sig).ty.Contents (Elt F)) = Cert.ReferenceIdeal.Step.b58 j s := by
  unfold res_main_while0b_v56 Cert.ReferenceIdeal.Step.b58
  rw [← al_56 h, ← al_57 h]
  try rfl
set_option maxRecDepth 8192 in
theorem al_59 (h : Holds V0 s j) : (Host.tanh (res_main_while0b_v56 V0) : (Proc.devRef .tc main_while0b_v57 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (res_main_while0b_v58 V0 : (Proc.devRef .tc main_while0b_v58 : DevRef τ sig).ty.Contents (Elt F)) = Cert.ReferenceIdeal.Step.b60 j s := by
  unfold res_main_while0b_v58 Cert.ReferenceIdeal.Step.b60
  rw [← al_55 h, ← al_59 h]
  try rfl
set_option maxRecDepth 8192 in
theorem al_61 (h : Holds V0 s j) : (extractStridedSlice S1x16x512 ![1, 0, 0] (V0 (Proc.devRef .tc main_v8_11)) slices_S2x16x512_S1x16x512_1_0_0 : (Proc.devRef .tc main_while0b_v59 : DevRef τ sig).ty.Contents (Elt F)) = Cert.ReferenceIdeal.Step.b61 j s := by
  unfold Cert.ReferenceIdeal.Step.b61
  rw [h.f_11]
  try rfl
set_option maxRecDepth 8192 in
theorem al_62 (h : Holds V0 s j) : (shapeCast S16x512 (extractStridedSlice S1x16x512 ![1, 0, 0] (V0 (Proc.devRef .tc main_v8_11)) slices_S2x16x512_S1x16x512_1_0_0) shapeCasts_S1x16x512_S16x512 : (Proc.devRef .tc main_while0b_v60 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S16x512 ![0, 1] bcast_S16x1_S16x512_0_1 (res_main_while0b_v11 V0) : (Proc.devRef .tc main_while0b_v61 : DevRef τ sig).ty.Contents (Elt F)) = Cert.ReferenceIdeal.Step.b63 j s := by
  unfold Cert.ReferenceIdeal.Step.b63
  rw [← al_7 h]
  try rfl
set_option maxRecDepth 8192 in
theorem al_64 (h : Holds V0 s j) : (mulf (shapeCast S16x512 (extractStridedSlice S1x16x512 ![1, 0, 0] (V0 (Proc.devRef .tc main_v8_11)) slices_S2x16x512_S1x16x512_1_0_0) shapeCasts_S1x16x512_S16x512) (broadcastInDim S16x512 ![0, 1] bcast_S16x1_S16x512_0_1 (res_main_while0b_v11 V0)) : (Proc.devRef .tc main_while0b_v62 : DevRef τ sig).ty.Contents (Elt F)) = Cert.ReferenceIdeal.Step.b64 j s := by
  unfold Cert.ReferenceIdeal.Step.b64
  rw [← al_62 h, ← al_63 h]
  try rfl
set_option maxRecDepth 8192 in
theorem al_65 (h : Holds V0 s j) : (extractStridedSlice S1x16x512 ![1, 0, 0] (V0 (Proc.devRef .tc main_v8_12)) slices_S2x16x512_S1x16x512_1_0_0 : (Proc.devRef .tc main_while0b_v63 : DevRef τ sig).ty.Contents (Elt F)) = Cert.ReferenceIdeal.Step.b65 j s := by
  unfold Cert.ReferenceIdeal.Step.b65
  rw [h.f_12]
  try rfl
set_option maxRecDepth 8192 in
theorem al_66 (h : Holds V0 s j) : (shapeCast S16x512 (extractStridedSlice S1x16x512 ![1, 0, 0] (V0 (Proc.devRef .tc main_v8_12)) slices_S2x16x512_S1x16x512_1_0_0) shapeCasts_S1x16x512_S16x512 : (Proc.devRef .tc main_while0b_v64 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (broadcastInDim S16x512 ![0, 1] bcast_S16x1_S16x512_0_1 (res_main_while0b_v11 V0) : (Proc.devRef .tc main_while0b_v65 : DevRef τ sig).ty.Contents (Elt F)) = Cert.ReferenceIdeal.Step.b67 j s := by
  unfold Cert.ReferenceIdeal.Step.b67
  rw [← al_7 h]
  try rfl
set_option maxRecDepth 8192 in
theorem al_68 (h : Holds V0 s j) : (mulf (shapeCast S16x512 (extractStridedSlice S1x16x512 ![1, 0, 0] (V0 (Proc.devRef .tc main_v8_12)) slices_S2x16x512_S1x16x512_1_0_0) shapeCasts_S1x16x512_S16x512) (broadcastInDim S16x512 ![0, 1] bcast_S16x1_S16x512_0_1 (res_main_while0b_v11 V0)) : (Proc.devRef .tc main_while0b_v66 : DevRef τ sig).ty.Contents (Elt F)) = Cert.ReferenceIdeal.Step.b68 j s := by
  unfold Cert.ReferenceIdeal.Step.b68
  rw [← al_66 h, ← al_67 h]
  try rfl
set_option maxRecDepth 8192 in
theorem al_69 (h : Holds V0 s j) : (transpose S512x2048 [1, 0] (V0 (Proc.devRef .tc main_v8_6)) transposes_S2048x512_S512x2048_1_0 : (Proc.devRef .tc main_while0b_v67 : DevRef τ sig).ty.Contents (Elt F)) = Cert.ReferenceIdeal.Step.b69 j s := by
  unfold Cert.ReferenceIdeal.Step.b69
  rw [h.f_6]
  try rfl
set_option maxRecDepth 8192 in
theorem al_70 (h : Holds V0 s j) : (Host.dotGeneral dot_S16x512_S512x2048_S16x2048_1_0_0_1_n_n none (res_main_while0b_v58 V0) (transpose S512x2048 [1, 0] (V0 (Proc.devRef .tc main_v8_6)) transposes_S2048x512_S512x2048_1_0) : (Proc.devRef .tc main_while0b_v68 : DevRef τ sig).ty.Contents (Elt F)) = Cert.ReferenceIdeal.Step.b70 j s := by
  unfold Cert.ReferenceIdeal.Step.b70
  rw [← al_60 h, ← al_69 h]
  try rfl
set_option maxRecDepth 8192 in
theorem al_71 (h : Holds V0 s j) : (broadcastInDim S1x2048 ![1] bcast_S2048_S1x2048_1 (V0 (Proc.devRef .tc main_v8_7)) : (Proc.devRef .tc main_while0b_v69 : DevRef τ sig).ty.Contents (Elt F)) = Cert.ReferenceIdeal.Step.b71 j s := by
  unfold Cert.ReferenceIdeal.Step.b71
  rw [h.f_7]
  try rfl
set_option maxRecDepth 8192 in
theorem al_72 (h : Holds V0 s j) : (broadcastInDim S16x2048 ![0, 1] bcast_S1x2048_S16x2048_0_1 (broadcastInDim S1x2048 ![1] bcast_S2048_S1x2048_1 (V0 (Proc.devRef .tc main_v8_7))) : (Proc.devRef .tc main_while0b_v70 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (addf (Host.dotGeneral dot_S16x512_S512x2048_S16x2048_1_0_0_1_n_n none (res_main_while0b_v58 V0) (transpose S512x2048 [1, 0] (V0 (Proc.devRef .tc main_v8_6)) transposes_S2048x512_S512x2048_1_0)) (broadcastInDim S16x2048 ![0, 1] bcast_S1x2048_S16x2048_0_1 (broadcastInDim S1x2048 ![1] bcast_S2048_S1x2048_1 (V0 (Proc.devRef .tc main_v8_7)))) : (Proc.devRef .tc main_while0b_v71 : DevRef τ sig).ty.Contents (Elt F)) = Cert.ReferenceIdeal.Step.b73 j s := by
  unfold Cert.ReferenceIdeal.Step.b73
  rw [← al_70 h, ← al_72 h]
  try rfl
set_option maxRecDepth 8192 in
theorem al_74 (h : Holds V0 s j) : (transpose S512x2048 [1, 0] (V0 (Proc.devRef .tc main_v8_8)) transposes_S2048x512_S512x2048_1_0 : (Proc.devRef .tc main_while0b_v72 : DevRef τ sig).ty.Contents (Elt F)) = Cert.ReferenceIdeal.Step.b74 j s := by
  unfold Cert.ReferenceIdeal.Step.b74
  rw [h.f_8]
  try rfl
set_option maxRecDepth 8192 in
theorem al_75 (h : Holds V0 s j) : (Host.dotGeneral dot_S16x512_S512x2048_S16x2048_1_0_0_1_n_n none (mulf (shapeCast S16x512 (extractStridedSlice S1x16x512 ![1, 0, 0] (V0 (Proc.devRef .tc main_v8_11)) slices_S2x16x512_S1x16x512_1_0_0) shapeCasts_S1x16x512_S16x512) (broadcastInDim S16x512 ![0, 1] bcast_S16x1_S16x512_0_1 (res_main_while0b_v11 V0))) (transpose S512x2048 [1, 0] (V0 (Proc.devRef .tc main_v8_8)) transposes_S2048x512_S512x2048_1_0) : (Proc.devRef .tc main_while0b_v73 : DevRef τ sig).ty.Contents (Elt F)) = Cert.ReferenceIdeal.Step.b75 j s := by
  unfold Cert.ReferenceIdeal.Step.b75
  rw [← al_64 h, ← al_74 h]
  try rfl
set_option maxRecDepth 8192 in
theorem al_76 (h : Holds V0 s j) : (addf (addf (Host.dotGeneral dot_S16x512_S512x2048_S16x2048_1_0_0_1_n_n none (res_main_while0b_v58 V0) (transpose S512x2048 [1, 0] (V0 (Proc.devRef .tc main_v8_6)) transposes_S2048x512_S512x2048_1_0)) (broadcastInDim S16x2048 ![0, 1] bcast_S1x2048_S16x2048_0_1 (broadcastInDim S1x2048 ![1] bcast_S2048_S1x2048_1 (V0 (Proc.devRef .tc main_v8_7))))) (Host.dotGeneral dot_S16x512_S512x2048_S16x2048_1_0_0_1_n_n none (mulf (shapeCast S16x512 (extractStridedSlice S1x16x512 ![1, 0, 0] (V0 (Proc.devRef .tc main_v8_11)) slices_S2x16x512_S1x16x512_1_0_0) shapeCasts_S1x16x512_S16x512) (broadcastInDim S16x512 ![0, 1] bcast_S16x1_S16x512_0_1 (res_main_while0b_v11 V0))) (transpose S512x2048 [1, 0] (V0 (Proc.devRef .tc main_v8_8)) transposes_S2048x512_S512x2048_1_0)) : (Proc.devRef .tc main_while0b_v74 : DevRef τ sig).ty.Contents (Elt F)) = Cert.ReferenceIdeal.Step.b76 j s := by
  unfold Cert.ReferenceIdeal.Step.b76
  rw [← al_73 h, ← al_75 h]
  try rfl
set_option maxRecDepth 8192 in
theorem al_77 (h : Holds V0 s j) : (broadcastInDim S1x2048 ![1] bcast_S2048_S1x2048_1 (V0 (Proc.devRef .tc main_v8_9)) : (Proc.devRef .tc main_while0b_v75 : DevRef τ sig).ty.Contents (Elt F)) = Cert.ReferenceIdeal.Step.b77 j s := by
  unfold Cert.ReferenceIdeal.Step.b77
  rw [h.f_9]
  try rfl
set_option maxRecDepth 8192 in
theorem al_78 (h : Holds V0 s j) : (broadcastInDim S16x2048 ![0, 1] bcast_S1x2048_S16x2048_0_1 (broadcastInDim S1x2048 ![1] bcast_S2048_S1x2048_1 (V0 (Proc.devRef .tc main_v8_9))) : (Proc.devRef .tc main_while0b_v76 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (res_main_while0b_v77 V0 : (Proc.devRef .tc main_while0b_v77 : DevRef τ sig).ty.Contents (Elt F)) = Cert.ReferenceIdeal.Step.b79 j s := by
  unfold res_main_while0b_v77 Cert.ReferenceIdeal.Step.b79
  rw [← al_76 h, ← al_78 h]
  try rfl
set_option maxRecDepth 8192 in
theorem al_80 (h : Holds V0 s j) : (extractStridedSlice S16x512 ![0, 0] (res_main_while0b_v77 V0) slices_S16x2048_S16x512_0_0 : (Proc.devRef .tc main_while0b_v78 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (extractStridedSlice S16x512 ![0, 512] (res_main_while0b_v77 V0) slices_S16x2048_S16x512_0_512 : (Proc.devRef .tc main_while0b_v79 : DevRef τ sig).ty.Contents (Elt F)) = Cert.ReferenceIdeal.Step.b81 j s := by
  unfold Cert.ReferenceIdeal.Step.b81
  rw [← al_79 h]
  try rfl
set_option maxRecDepth 8192 in
theorem al_82 (h : Holds V0 s j) : (extractStridedSlice S16x512 ![0, 1024] (res_main_while0b_v77 V0) slices_S16x2048_S16x512_0_1024 : (Proc.devRef .tc main_while0b_v80 : DevRef τ sig).ty.Contents (Elt F)) = Cert.ReferenceIdeal.Step.b82 j s := by
  unfold Cert.ReferenceIdeal.Step.b82
  rw [← al_79 h]
  try rfl
set_option maxRecDepth 8192 in
theorem al_83 (h : Holds V0 s j) : (extractStridedSlice S16x512 ![0, 1536] (res_main_while0b_v77 V0) slices_S16x2048_S16x512_0_1536 : (Proc.devRef .tc main_while0b_v81 : DevRef τ sig).ty.Contents (Elt F)) = Cert.ReferenceIdeal.Step.b83 j s := by
  unfold Cert.ReferenceIdeal.Step.b83
  rw [← al_79 h]
  try rfl
set_option maxRecDepth 8192 in
theorem al_84 (h : Holds V0 s j) : (Host.negf (extractStridedSlice S16x512 ![0, 0] (res_main_while0b_v77 V0) slices_S16x2048_S16x512_0_0) : (Proc.devRef .tc main_while0b_v82 : DevRef τ sig).ty.Contents (Elt F)) = Cert.ReferenceIdeal.Step.b84 j s := by
  unfold Cert.ReferenceIdeal.Step.b84
  rw [← al_80 h]
  try rfl
set_option maxRecDepth 8192 in
theorem al_85 (h : Holds V0 s j) : (Host.exp (Host.negf (extractStridedSlice S16x512 ![0, 0] (res_main_while0b_v77 V0) slices_S16x2048_S16x512_0_0)) : (Proc.devRef .tc main_while0b_v83 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (constant S_ .f32 0x3F800000#32 : (Proc.devRef .tc main_while0b_cst_20 : DevRef τ sig).ty.Contents (Elt F)) = Cert.ReferenceIdeal.Step.b86 j s := by
  unfold Cert.ReferenceIdeal.Step.b86
  rfl
set_option maxRecDepth 8192 in
theorem al_87 (h : Holds V0 s j) : (broadcastInDim S16x512 ![] bcast_S_S16x512 (constant S_ .f32 0x3F800000#32) : (Proc.devRef .tc main_while0b_v84 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (addf (broadcastInDim S16x512 ![] bcast_S_S16x512 (constant S_ .f32 0x3F800000#32)) (Host.exp (Host.negf (extractStridedSlice S16x512 ![0, 0] (res_main_while0b_v77 V0) slices_S16x2048_S16x512_0_0))) : (Proc.devRef .tc main_while0b_v85 : DevRef τ sig).ty.Contents (Elt F)) = Cert.ReferenceIdeal.Step.b88 j s := by
  unfold Cert.ReferenceIdeal.Step.b88
  rw [← al_87 h, ← al_85 h]
  try rfl
set_option maxRecDepth 8192 in
theorem al_89 (h : Holds V0 s j) : (constant S_ .f32 0x3F800000#32 : (Proc.devRef .tc main_while0b_cst_21 : DevRef τ sig).ty.Contents (Elt F)) = Cert.ReferenceIdeal.Step.b89 j s := by
  unfold Cert.ReferenceIdeal.Step.b89
  rfl
set_option maxRecDepth 8192 in
theorem al_90 (h : Holds V0 s j) : (broadcastInDim S16x512 ![] bcast_S_S16x512 (constant S_ .f32 0x3F800000#32) : (Proc.devRef .tc main_while0b_v86 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 0] (res_main_while0b_v77 V0) slices_S16x2048_S16x512_0_0)))) : (Proc.devRef .tc main_while0b_v87 : DevRef τ sig).ty.Contents (Elt F)) = Cert.ReferenceIdeal.Step.b91 j s := by
  unfold Cert.ReferenceIdeal.Step.b91
  rw [← al_90 h, ← al_88 h]
  try rfl
set_option maxRecDepth 8192 in
theorem al_92 (h : Holds V0 s j) : (Host.negf (extractStridedSlice S16x512 ![0, 512] (res_main_while0b_v77 V0) slices_S16x2048_S16x512_0_512) : (Proc.devRef .tc main_while0b_v88 : DevRef τ sig).ty.Contents (Elt F)) = Cert.ReferenceIdeal.Step.b92 j s := by
  unfold Cert.ReferenceIdeal.Step.b92
  rw [← al_81 h]
  try rfl
set_option maxRecDepth 8192 in
theorem al_93 (h : Holds V0 s j) : (Host.exp (Host.negf (extractStridedSlice S16x512 ![0, 512] (res_main_while0b_v77 V0) slices_S16x2048_S16x512_0_512)) : (Proc.devRef .tc main_while0b_v89 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (constant S_ .f32 0x3F800000#32 : (Proc.devRef .tc main_while0b_cst_22 : DevRef τ sig).ty.Contents (Elt F)) = Cert.ReferenceIdeal.Step.b94 j s := by
  unfold Cert.ReferenceIdeal.Step.b94
  rfl
set_option maxRecDepth 8192 in
theorem al_95 (h : Holds V0 s j) : (broadcastInDim S16x512 ![] bcast_S_S16x512 (constant S_ .f32 0x3F800000#32) : (Proc.devRef .tc main_while0b_v90 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (addf (broadcastInDim S16x512 ![] bcast_S_S16x512 (constant S_ .f32 0x3F800000#32)) (Host.exp (Host.negf (extractStridedSlice S16x512 ![0, 512] (res_main_while0b_v77 V0) slices_S16x2048_S16x512_0_512))) : (Proc.devRef .tc main_while0b_v91 : DevRef τ sig).ty.Contents (Elt F)) = Cert.ReferenceIdeal.Step.b96 j s := by
  unfold Cert.ReferenceIdeal.Step.b96
  rw [← al_95 h, ← al_93 h]
  try rfl
set_option maxRecDepth 8192 in
theorem al_97 (h : Holds V0 s j) : (constant S_ .f32 0x3F800000#32 : (Proc.devRef .tc main_while0b_cst_23 : DevRef τ sig).ty.Contents (Elt F)) = Cert.ReferenceIdeal.Step.b97 j s := by
  unfold Cert.ReferenceIdeal.Step.b97
  rfl
set_option maxRecDepth 8192 in
theorem al_98 (h : Holds V0 s j) : (broadcastInDim S16x512 ![] bcast_S_S16x512 (constant S_ .f32 0x3F800000#32) : (Proc.devRef .tc main_while0b_v92 : DevRef τ sig).ty.Contents (Elt F)) = Cert.ReferenceIdeal.Step.b98 j s := by
  unfold Cert.ReferenceIdeal.Step.b98
  rw [← al_97 h]
  try rfl
set_option maxRecDepth 8192 in
theorem al_99 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 512] (res_main_while0b_v77 V0) slices_S16x2048_S16x512_0_512)))) : (Proc.devRef .tc main_while0b_v93 : DevRef τ sig).ty.Contents (Elt F)) = Cert.ReferenceIdeal.Step.b99 j s := by
  unfold Cert.ReferenceIdeal.Step.b99
  rw [← al_98 h, ← al_96 h]
  try rfl
set_option maxRecDepth 8192 in
theorem al_100 (h : Holds V0 s j) : (Host.tanh (extractStridedSlice S16x512 ![0, 1024] (res_main_while0b_v77 V0) slices_S16x2048_S16x512_0_1024) : (Proc.devRef .tc main_while0b_v94 : DevRef τ sig).ty.Contents (Elt F)) = Cert.ReferenceIdeal.Step.b100 j s := by
  unfold Cert.ReferenceIdeal.Step.b100
  rw [← al_82 h]
  try rfl
set_option maxRecDepth 8192 in
theorem al_101 (h : Holds V0 s j) : (Host.negf (extractStridedSlice S16x512 ![0, 1536] (res_main_while0b_v77 V0) slices_S16x2048_S16x512_0_1536) : (Proc.devRef .tc main_while0b_v95 : DevRef τ sig).ty.Contents (Elt F)) = Cert.ReferenceIdeal.Step.b101 j s := by
  unfold Cert.ReferenceIdeal.Step.b101
  rw [← al_83 h]
  try rfl
set_option maxRecDepth 8192 in
theorem al_102 (h : Holds V0 s j) : (Host.exp (Host.negf (extractStridedSlice S16x512 ![0, 1536] (res_main_while0b_v77 V0) slices_S16x2048_S16x512_0_1536)) : (Proc.devRef .tc main_while0b_v96 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (constant S_ .f32 0x3F800000#32 : (Proc.devRef .tc main_while0b_cst_24 : DevRef τ sig).ty.Contents (Elt F)) = Cert.ReferenceIdeal.Step.b103 j s := by
  unfold Cert.ReferenceIdeal.Step.b103
  rfl
set_option maxRecDepth 8192 in
theorem al_104 (h : Holds V0 s j) : (broadcastInDim S16x512 ![] bcast_S_S16x512 (constant S_ .f32 0x3F800000#32) : (Proc.devRef .tc main_while0b_v97 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (addf (broadcastInDim S16x512 ![] bcast_S_S16x512 (constant S_ .f32 0x3F800000#32)) (Host.exp (Host.negf (extractStridedSlice S16x512 ![0, 1536] (res_main_while0b_v77 V0) slices_S16x2048_S16x512_0_1536))) : (Proc.devRef .tc main_while0b_v98 : DevRef τ sig).ty.Contents (Elt F)) = Cert.ReferenceIdeal.Step.b105 j s := by
  unfold Cert.ReferenceIdeal.Step.b105
  rw [← al_104 h, ← al_102 h]
  try rfl
set_option maxRecDepth 8192 in
theorem al_106 (h : Holds V0 s j) : (constant S_ .f32 0x3F800000#32 : (Proc.devRef .tc main_while0b_cst_25 : DevRef τ sig).ty.Contents (Elt F)) = Cert.ReferenceIdeal.Step.b106 j s := by
  unfold Cert.ReferenceIdeal.Step.b106
  rfl
set_option maxRecDepth 8192 in
theorem al_107 (h : Holds V0 s j) : (broadcastInDim S16x512 ![] bcast_S_S16x512 (constant S_ .f32 0x3F800000#32) : (Proc.devRef .tc main_while0b_v99 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 1536] (res_main_while0b_v77 V0) slices_S16x2048_S16x512_0_1536)))) : (Proc.devRef .tc main_while0b_v100 : DevRef τ sig).ty.Contents (Elt F)) = Cert.ReferenceIdeal.Step.b108 j s := by
  unfold Cert.ReferenceIdeal.Step.b108
  rw [← al_107 h, ← al_105 h]
  try rfl
set_option maxRecDepth 8192 in
theorem al_109 (h : Holds V0 s j) : (mulf (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 512] (res_main_while0b_v77 V0) slices_S16x2048_S16x512_0_512))))) (mulf (shapeCast S16x512 (extractStridedSlice S1x16x512 ![1, 0, 0] (V0 (Proc.devRef .tc main_v8_12)) slices_S2x16x512_S1x16x512_1_0_0) shapeCasts_S1x16x512_S16x512) (broadcastInDim S16x512 ![0, 1] bcast_S16x1_S16x512_0_1 (res_main_while0b_v11 V0))) : (Proc.devRef .tc main_while0b_v101 : DevRef τ sig).ty.Contents (Elt F)) = Cert.ReferenceIdeal.Step.b109 j s := by
  unfold Cert.ReferenceIdeal.Step.b109
  rw [← al_99 h, ← al_68 h]
  try rfl
set_option maxRecDepth 8192 in
theorem al_110 (h : Holds V0 s j) : (mulf (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, 0] (res_main_while0b_v77 V0) slices_S16x2048_S16x512_0_0))))) (Host.tanh (extractStridedSlice S16x512 ![0, 1024] (res_main_while0b_v77 V0) slices_S16x2048_S16x512_0_1024)) : (Proc.devRef .tc main_while0b_v102 : DevRef τ sig).ty.Contents (Elt F)) = Cert.ReferenceIdeal.Step.b110 j s := by
  unfold Cert.ReferenceIdeal.Step.b110
  rw [← al_91 h, ← al_100 h]
  try rfl
set_option maxRecDepth 8192 in
theorem al_111 (h : Holds V0 s j) : (res_main_while0b_v103 V0 : (Proc.devRef .tc main_while0b_v103 : DevRef τ sig).ty.Contents (Elt F)) = Cert.ReferenceIdeal.Step.b111 j s := by
  unfold res_main_while0b_v103 Cert.ReferenceIdeal.Step.b111
  rw [← al_109 h, ← al_110 h]
  try rfl
set_option maxRecDepth 8192 in
theorem al_112 (h : Holds V0 s j) : (Host.tanh (res_main_while0b_v103 V0) : (Proc.devRef .tc main_while0b_v104 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (res_main_while0b_v105 V0 : (Proc.devRef .tc main_while0b_v105 : DevRef τ sig).ty.Contents (Elt F)) = Cert.ReferenceIdeal.Step.b113 j s := by
  unfold res_main_while0b_v105 Cert.ReferenceIdeal.Step.b113
  rw [← al_108 h, ← al_112 h]
  try rfl
set_option maxRecDepth 8192 in
theorem al_114 (h : Holds V0 s j) : (broadcastInDim S1x16x512 ![1, 2] bcast_S16x512_S1x16x512_1_2 (res_main_while0b_v58 V0) : (Proc.devRef .tc main_while0b_v106 : DevRef τ sig).ty.Contents (Elt F)) = Cert.ReferenceIdeal.Step.b114 j s := by
  unfold Cert.ReferenceIdeal.Step.b114
  rw [← al_60 h]
  try rfl
set_option maxRecDepth 8192 in
theorem al_115 (h : Holds V0 s j) : (broadcastInDim S1x16x512 ![1, 2] bcast_S16x512_S1x16x512_1_2 (res_main_while0b_v105 V0) : (Proc.devRef .tc main_while0b_v107 : DevRef τ sig).ty.Contents (Elt F)) = Cert.ReferenceIdeal.Step.b115 j s := by
  unfold Cert.ReferenceIdeal.Step.b115
  rw [← al_113 h]
  try rfl
set_option maxRecDepth 8192 in
theorem al_116 (h : Holds V0 s j) : (concatenate S2x16x512 0 [⟨S1x16x512, (broadcastInDim S1x16x512 ![1, 2] bcast_S16x512_S1x16x512_1_2 (res_main_while0b_v58 V0))⟩, ⟨S1x16x512, (broadcastInDim S1x16x512 ![1, 2] bcast_S16x512_S1x16x512_1_2 (res_main_while0b_v105 V0))⟩] concatenates_S1x16x512_S1x16x512_S2x16x512_d0 : (Proc.devRef .tc main_while0b_v108 : DevRef τ sig).ty.Contents (Elt F)) = Cert.ReferenceIdeal.Step.b116 j s := by
  unfold Cert.ReferenceIdeal.Step.b116
  rw [← al_114 h, ← al_115 h]
  try rfl
set_option maxRecDepth 8192 in
theorem al_117 (h : Holds V0 s j) : (broadcastInDim S1x16x512 ![1, 2] bcast_S16x512_S1x16x512_1_2 (res_main_while0b_v56 V0) : (Proc.devRef .tc main_while0b_v109 : DevRef τ sig).ty.Contents (Elt F)) = Cert.ReferenceIdeal.Step.b117 j s := by
  unfold Cert.ReferenceIdeal.Step.b117
  rw [← al_58 h]
  try rfl
set_option maxRecDepth 8192 in
theorem al_118 (h : Holds V0 s j) : (broadcastInDim S1x16x512 ![1, 2] bcast_S16x512_S1x16x512_1_2 (res_main_while0b_v103 V0) : (Proc.devRef .tc main_while0b_v110 : DevRef τ sig).ty.Contents (Elt F)) = Cert.ReferenceIdeal.Step.b118 j s := by
  unfold Cert.ReferenceIdeal.Step.b118
  rw [← al_111 h]
  try rfl
set_option maxRecDepth 8192 in
theorem al_119 (h : Holds V0 s j) : (concatenate S2x16x512 0 [⟨S1x16x512, (broadcastInDim S1x16x512 ![1, 2] bcast_S16x512_S1x16x512_1_2 (res_main_while0b_v56 V0))⟩, ⟨S1x16x512, (broadcastInDim S1x16x512 ![1, 2] bcast_S16x512_S1x16x512_1_2 (res_main_while0b_v103 V0))⟩] concatenates_S1x16x512_S1x16x512_S2x16x512_d0 : (Proc.devRef .tc main_while0b_v111 : DevRef τ sig).ty.Contents (Elt F)) = Cert.ReferenceIdeal.Step.b119 j s := by
  unfold Cert.ReferenceIdeal.Step.b119
  rw [← al_117 h, ← al_118 h]
  try rfl
set_option maxRecDepth 8192 in
theorem al_120 (h : Holds V0 s j) : (broadcastInDim S1x16x512 ![1, 2] bcast_S16x512_S1x16x512_1_2 (res_main_while0b_v105 V0) : (Proc.devRef .tc main_while0b_call2_v0 : DevRef τ sig).ty.Contents (Elt F)) = Cert.ReferenceIdeal.Step.b120 j s := by
  unfold Cert.ReferenceIdeal.Step.b120
  rw [← al_113 h]
  try rfl
set_option maxRecDepth 8192 in
theorem al_121 (h : Holds V0 s j) : (constantI S_ 32 0#32 : (Proc.devRef .tc main_while0b_call2_c : DevRef τ sig).ty.Contents (Elt F)) = Cert.ReferenceIdeal.Step.b121 j s := by
  unfold Cert.ReferenceIdeal.Step.b121
  rfl
set_option maxRecDepth 8192 in
theorem al_122 (h : Holds V0 s j) : (constantI S_ 32 0#32 : (Proc.devRef .tc main_while0b_call2_c_0 : DevRef τ sig).ty.Contents (Elt F)) = Cert.ReferenceIdeal.Step.b122 j s := by
  unfold Cert.ReferenceIdeal.Step.b122
  rfl
set_option maxRecDepth 8192 in
theorem al_123 (h : Holds V0 s j) : (Host.dynamicUpdateSlice (V0 (Proc.devRef .tc main_v8_13)) (broadcastInDim S1x16x512 ![1, 2] bcast_S16x512_S1x16x512_1_2 (res_main_while0b_v105 V0)) (fun k => (((![V0 (Proc.devRef .tc main_v8_10), constantI S_ 32 0#32, constantI S_ 32 0#32] : Fin 3 → (⟨S_, .i32⟩ : BufTy).Contents (Elt F))) k (Shape.Idx.first h_S_)).toInt) updateFits_S512x16x512_S1x16x512 : (Proc.devRef .tc main_while0b_v112 : DevRef τ sig).ty.Contents (Elt F)) = Cert.ReferenceIdeal.Step.b123 j s := by
  unfold Cert.ReferenceIdeal.Step.b123
  rw [← al_120 h, ← al_121 h, ← al_122 h, h.f_13, h.n_10]
  try rfl

/-! One trip's step of the carried values is `step`, field by field; a counter steps to the next number. -/

theorem step_11 (h : Holds V0 s j) : step_main_v8_11 V0 = (step j s).main_v8_11 := by
  unfold step_main_v8_11 Cert.ReferenceIdeal.Step.step
  show id (concatenate S2x16x512 0 [⟨S1x16x512, (broadcastInDim S1x16x512 ![1, 2] bcast_S16x512_S1x16x512_1_2 (res_main_while0b_v58 V0))⟩, ⟨S1x16x512, (broadcastInDim S1x16x512 ![1, 2] bcast_S16x512_S1x16x512_1_2 (res_main_while0b_v105 V0))⟩] concatenates_S1x16x512_S1x16x512_S2x16x512_d0) = _
  rw [al_116 h]
  try rfl
theorem step_12 (h : Holds V0 s j) : step_main_v8_12 V0 = (step j s).main_v8_12 := by
  unfold step_main_v8_12 Cert.ReferenceIdeal.Step.step
  show id (concatenate S2x16x512 0 [⟨S1x16x512, (broadcastInDim S1x16x512 ![1, 2] bcast_S16x512_S1x16x512_1_2 (res_main_while0b_v56 V0))⟩, ⟨S1x16x512, (broadcastInDim S1x16x512 ![1, 2] bcast_S16x512_S1x16x512_1_2 (res_main_while0b_v103 V0))⟩] concatenates_S1x16x512_S1x16x512_S2x16x512_d0) = _
  rw [al_119 h]
  try rfl
theorem step_13 (h : Holds V0 s j) : step_main_v8_13 V0 = (step j s).main_v8_13 :=
  (show step_main_v8_13 V0 = _ from rfl).trans (al_123 h)
theorem step_10 (h : Holds V0 s j) : step_main_v8_10 V0 = constantI S_ 32 (BitVec.ofNat 32 (j + 1)) := by
  unfold step_main_v8_10
  rw [h.n_10]
  funext i
  show BitVec.ofNat 32 j + 1#32 = BitVec.ofNat 32 (j + 1)
  simp only [BitVec.ofNat_add]

set_option maxRecDepth 8192 in
theorem out_main_v9_holds (h : Holds V0 s j) : out_main_v9 V0 = Cert.ReferenceIdeal.Step.R_main_v9 s := by
  unfold out_main_v9 Cert.ReferenceIdeal.Step.R_main_v9
  rw [h.f_11, h.f_12]
  try rfl

/-- One trip keeps the valuation holding: `step` of the state, the same set-up values, the next number. -/
theorem holds_step (h : Holds V0 s j) : Holds (STEP V0) (step j s) (j + 1) where
  f_11 := (STEP_main_v8_11 V0).trans (step_11 h)
  f_12 := (STEP_main_v8_12 V0).trans (step_12 h)
  f_13 := (STEP_main_v8_13 V0).trans (step_13 h)
  n_10 := (STEP_main_v8_10 V0).trans (step_10 h)
  f_0 := (STEP_main_v8_0 V0).trans h.f_0
  f_1 := (STEP_main_v8_1 V0).trans h.f_1
  f_2 := (STEP_main_v8_2 V0).trans h.f_2
  f_3 := (STEP_main_v8_3 V0).trans h.f_3
  f_4 := (STEP_main_v8_4 V0).trans h.f_4
  f_5 := (STEP_main_v8_5 V0).trans h.f_5
  f_6 := (STEP_main_v8_6 V0).trans h.f_6
  f_7 := (STEP_main_v8_7 V0).trans h.f_7
  f_8 := (STEP_main_v8_8 V0).trans h.f_8
  f_9 := (STEP_main_v8_9 V0).trans h.f_9

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) (m ((c.tc : Thread nD τ).loc main_arg9)) (m ((c.tc : Thread nD τ).loc main_arg8)) (m ((c.tc : Thread nD τ).loc main_arg10)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v8_13) = (it c 512).main_v8_13
      ∧ r.2.mem ((c.tc : Thread nD τ).loc main_v9) = Cert.ReferenceIdeal.Step.R_main_v9 (it c 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 512
    ⟨(h c).1.trans hk.f_13, (h c).2.1.trans (out_main_v9_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.Trips

end
-- ==== Proof.RI.Value.lean ====
/- The reference's run: each step's state, and the arguments unchanged. -/
module

public import proofs.«01_k».proof.Defs
public import proofs.«01_k».proof.Proof.RI.Trips
public import Idealize.ShloMosaic.Lib.Quiescent

@[expose] public section

noncomputable section

namespace Cert.ReferenceIdeal.Hand

open Idealize.ShloMosaic Idealize.ShloMosaic.TcCoe Idealize.SL.Sem
open Cert.ReferenceIdeal Cert.ReferenceIdeal.Step

variable {F : FTy → Type} [FloatOps F]

/-- The states before each step. -/
def states (s : State F) : ℕ → State F
  | 0 => s
  | n + 1 => step n (states s n)

/-- The run's results are the last state's, and the arguments are unchanged. -/
theorem value_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v8_13) = (states (Trips.initState m c) 512).main_v8_13
      ∧ r.2.mem ((c.tc : Thread nD τ).loc main_v9) = R_main_v9 (states (Trips.initState m c) 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Trips.run_iter m ρ (fun c => states (Trips.initState m c)) (fun _ => rfl) (fun _ _ => rfl)

/-- The reference runs to its end and leaves its arguments as they were. -/
theorem quiescent : Cert.quiescent_ReferenceIdeal := fun m ρ _ =>
  (θ_run defs _ _).mono (fun r h => ⟨fun c => (h c).2.2, sem_eq_zero_of_no_sems (by decide) r.2⟩) (value_run m ρ)

/-- The same where the flags satisfy the precondition. -/
theorem quiescent_pre [Cert.Pre_no_wrap.Facts] : Cert.quiescent_ReferenceIdeal_pre_no_wrap := fun m ρ _ => quiescent m ρ trivial

end Cert.ReferenceIdeal.Hand

end
-- ==== Proof.Eq.Layer.lean ====
/- One layer's step, at real numbers: the kernel's and the reference's gates, cells and hidden states are equal. -/
module

public import proofs.«01_k».proof.Proof.KI.Inv
public import proofs.«01_k».proof.Proof.Gen.ReferenceIdeal.Step
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.ValueLayout
public import Idealize.ShloMosaic.Lib.KernelVsHost
public import Idealize.ShloMosaic.Lib.DynamicIndex
public import Idealize.ShloMosaic.Lib.Pipeline.Value

@[expose] public section

noncomputable section

namespace Cert.Hand

open Idealize.ShloMosaic Idealize.ShloMosaic.ValueIdx
open Cert.ReferenceIdeal Cert.ReferenceIdeal.Gen Cert.ReferenceIdeal.Step
open Cert.KernelIdeal.Hand (cellC cellH proj mrow rowM rows16 matG0 addG0 preG1)

open scoped BigOperators

/-- Two matrices of 16 rows are equal if they are at each row and column. -/
theorem ext16 {α : Type} {n : ℕ} {f g : (⟨2, ![16, n]⟩ : Shape).Idx → α} (h : ∀ (r : Fin 16) (q : Fin n), f (ix2 r q) = g (ix2 r q)) : f = g := by
  funext y
  rw [eq_ix2 y]
  exact h (y 0) (y 1)

/-- The float one is the number one. -/
theorem one_f32 : Ideal.ofBits .f32 0x3F800000#32 = 1 := by
  simp [Ideal.ofBits, Ideal.ieee, -EReal.coe_mul]
  norm_num

/-! ## The reference's layer -/

/-- A bias along every row. -/
def biasRows (b : FVec Ideal S2048 .f32) : FVec Ideal S16x2048 .f32 :=
  broadcastInDim S16x2048 ![0, 1] bcast_S1x2048_S16x2048_0_1 (broadcastInDim S1x2048 ![1] bcast_S2048_S1x2048_1 b)

/-- The gates' sums: input and masked state through their weights, with their biases. -/
def refGates (x hm : FVec Ideal S16x512 .f32) (wi wh : FVec Ideal S2048x512 .f32) (bi bh : FVec Ideal S2048 .f32) : FVec Ideal S16x2048 .f32 :=
  addf (addf (addf (Host.dotGeneral dot_S16x512_S512x2048_S16x2048_1_0_0_1_n_n none x (transpose S512x2048 [1, 0] wi transposes_S2048x512_S512x2048_1_0)) (biasRows bi))
    (Host.dotGeneral dot_S16x512_S512x2048_S16x2048_1_0_0_1_n_n none hm (transpose S512x2048 [1, 0] wh transposes_S2048x512_S512x2048_1_0))) (biasRows bh)

/-- The logistic function, as the reference spells it. -/
def refSig (x : FVec Ideal S16x512 .f32) : FVec Ideal S16x512 .f32 :=
  Host.divf (broadcastInDim S16x512 ![] bcast_S_S16x512 (constant S_ .f32 0x3F800000#32))
    (addf (broadcastInDim S16x512 ![] bcast_S_S16x512 (constant S_ .f32 0x3F800000#32)) (Host.exp (Host.negf x)))

/-- The new cell state, -/
def refCell (g : FVec Ideal S16x2048 .f32) (cm : FVec Ideal S16x512 .f32) : FVec Ideal S16x512 .f32 :=
  addf (mulf (refSig (extractStridedSlice S16x512 ![0, 512] g slices_S16x2048_S16x512_0_512)) cm)
    (mulf (refSig (extractStridedSlice S16x512 ![0, 0] g slices_S16x2048_S16x512_0_0)) (Host.tanh (extractStridedSlice S16x512 ![0, 1024] g slices_S16x2048_S16x512_0_1024)))

/-- and the new hidden state. -/
def refHid (g : FVec Ideal S16x2048 .f32) (c : FVec Ideal S16x512 .f32) : FVec Ideal S16x512 .f32 :=
  mulf (refSig (extractStridedSlice S16x512 ![0, 1536] g slices_S16x2048_S16x512_0_1536)) (Host.tanh c)

theorem refSig_apply (x : FVec Ideal S16x512 .f32) (i : S16x512.Idx) : refSig x i = Ideal.logistic (x i) := by
  show Ideal.div (Ideal.ofBits .f32 0x3F800000#32) (Ideal.ofBits .f32 0x3F800000#32 + Ideal.exp (-(x i))) = _
  rw [one_f32]
  rfl

theorem refSig_eq (x : FVec Ideal S16x512 .f32) : refSig x = logistic x := funext fun i => refSig_apply x i

theorem refCell_eq (g : FVec Ideal S16x2048 .f32) (c : FVec Ideal S16x512 .f32) : refCell g c = cellC g c := by
  unfold refCell cellC
  rw [refSig_eq, refSig_eq]
  rfl

theorem refHid_eq (g : FVec Ideal S16x2048 .f32) (c : FVec Ideal S16x512 .f32) : refHid g c = cellH g c := by
  unfold refHid cellH
  rw [refSig_eq]
  rfl

/-! ## The gates' sums at an index -/

theorem dot_apply (x : FVec Ideal S16x512 .f32) (w : FVec Ideal S512x2048 .f32) (r : Fin 16) (q : Fin 2048) :
    Host.dotGeneral dot_S16x512_S512x2048_S16x2048_1_0_0_1_n_n none x w (ix2 r q) = ∑ k : Fin 512, x (ix2 r k) * w (ix2 k q) :=
  StackMember.dotGeneral_plain_apply none x w r q

theorem biasRows_apply (b : FVec Ideal S2048 .f32) (r : Fin 16) (q : Fin 2048) : biasRows b (ix2 r q) = b (ix1 q) := by
  unfold biasRows
  refine congrArg b (funext fun a => ?_)
  match a with
  | ⟨0, _⟩ => rfl

theorem refGates_apply (x hm : FVec Ideal S16x512 .f32) (wi wh : FVec Ideal S2048x512 .f32) (bi bh : FVec Ideal S2048 .f32) (r : Fin 16) (q : Fin 2048) :
    refGates x hm wi wh bi bh (ix2 r q)
      = ((∑ k : Fin 512, x (ix2 r k) * wi (ix2 q k)) + bi (ix1 q)) + (∑ k : Fin 512, hm (ix2 r k) * wh (ix2 q k)) + bh (ix1 q) := by
  unfold refGates
  rw [addf_apply, addf_apply, addf_apply, dot_apply, dot_apply, biasRows_apply, biasRows_apply]
  have e : ∀ (w : FVec Ideal S2048x512 .f32) (k : Fin 512), transpose S512x2048 [1, 0] w transposes_S2048x512_S512x2048_1_0 (ix2 k q) = w (ix2 q k) :=
    fun w k => transpose_ix2_apply w _ k q
  simp only [e]

theorem proj_apply (h : FVec Ideal S16x512 .f32) (M : Vec Ideal KernelIdeal.S1x16x128 .f32) (w : Vec Ideal S512x2048 .bf16) (r : Fin 16) (q : Fin 2048) :
    proj h M w (ix2 r q) = ∑ k : Fin 512, mulf h (mrow M) (ix2 r k) * w (ix2 k q) := by
  unfold proj
  rw [shapeCast_self, shapeCast_self]
  refine (Ideal.matmul_plain_apply none _ _ _ r q).trans ?_
  show Ideal.ofBits .f32 0x00000000#32 + _ = _
  rw [Ideal.ofBits_zero_f32, zero_add]
  rfl

theorem mrow_apply (M : Vec Ideal KernelIdeal.S1x16x128 .f32) (r : Fin 16) (k : Fin 512) : mrow M (ix2 r k) = M (ix3 0 r 0) := by
  unfold mrow
  rw [shapeCast_self]
  refine Eq.trans ?_ (shapeCast_1ab_ab_apply M KernelIdeal.Gen.shapeCasts_S1x16x128_S16x128 r 0)
  refine congrArg (shapeCast KernelIdeal.S16x128 M KernelIdeal.Gen.shapeCasts_S1x16x128_S16x128) (funext fun a => Fin.ext ?_)
  match a with
  | ⟨0, _⟩ => exact Nat.zero_add r.val
  | ⟨1, _⟩ => rfl

/-- A layer's step: from equal inputs, masks and weights, equal gates. -/
theorem gates_eq (G : FVec Ideal S16x2048 .f32) (h : FVec Ideal S16x512 .f32) (M : Vec Ideal KernelIdeal.S1x16x128 .f32)
    (wI wH : Vec Ideal S512x2048 .bf16) (b : Vec Ideal S1x2048 .f32)
    (x hm : FVec Ideal S16x512 .f32) (wi wh : FVec Ideal S2048x512 .f32) (bi bh : FVec Ideal S2048 .f32)
    (hG : ∀ r q, G (ix2 r q) = (∑ k : Fin 512, x (ix2 r k) * wI (ix2 k q)) + b (ix2 0 q))
    (hx : mulf h (mrow M) = hm) (hI : ∀ k q, wI (ix2 k q) = wi (ix2 q k)) (hH : ∀ k q, wH (ix2 k q) = wh (ix2 q k))
    (hb : ∀ q, b (ix2 0 q) = bi (ix1 q) + bh (ix1 q)) :
    addf G (proj h M wH) = refGates x hm wi wh bi bh := by
  refine ext16 fun r q => ?_
  rw [refGates_apply, addf_apply, hG, proj_apply, hx, hb]
  simp only [hI, hH]
  generalize (∑ k : Fin 512, x (ix2 r k) * wi (ix2 q k)) = A
  generalize (∑ k : Fin 512, hm (ix2 r k) * wh (ix2 q k)) = B
  generalize bi (ix1 q) = C
  generalize bh (ix1 q) = D
  show (A + (C + D)) + B = ((A + C) + B) + D
  ac_rfl

end Cert.Hand

end
-- ==== Proof.Eq.Trip.lean ====
/- One step of the reference's loop, and that it keeps the kernel's recurrences: after `n` steps the reference's state holds
   the two layers' states after `n` steps, and the outputs of the steps so far. -/
module

public import proofs.«01_k».proof.Proof.Eq.Layer
public import proofs.«01_k».proof.Proof.KI.Inv
public import proofs.«01_k».proof.Proof.RI.Value
public import Idealize.ShloMosaic.Lib.WordCmp

@[expose] public section

noncomputable section

namespace Cert.Hand

open Idealize.ShloMosaic Idealize.ShloMosaic.ValueIdx
open Cert.ReferenceIdeal Cert.ReferenceIdeal.Gen Cert.ReferenceIdeal.Step
open Cert.ReferenceIdeal.Hand (states)
open Cert.KernelIdeal.Hand (cellC cellH proj mrow rowM rows16 matG0 addG0 preG1 packH Ins lay kf G0 S0 HS G1 S1 YS FN rowQ)

open scoped BigOperators

/-! ## The kernel's projections at an index -/

/-- A chunk's projection and bias at a row of one step. -/
theorem chunk_apply (X : FVec Ideal KernelIdeal.S256x512 .bf16) (w : Vec Ideal S512x2048 .bf16) (b : Vec Ideal S1x2048 .f32) (k : Fin 16) (r : Fin 16) (q : Fin 2048) :
    rows16 (preG1 X w b) k (ix2 r q)
      = (∑ l : Fin 512, X (ix2 ⟨16 * k.val + r.val, by have := k.isLt; have := r.isLt; omega⟩ l) * w (ix2 l q)) + b (ix2 0 q) := by
  unfold rows16 preG1
  rw [shapeCast_self, shapeCast_self, shapeCast_self]
  refine (addf_apply _ _ _).trans (congrArg₂ (· + ·) ?_ ?_)
  · refine (Ideal.matmul_plain_apply none _ _ _ _ q).trans ?_
    show Ideal.ofBits .f32 0x00000000#32 + _ = _
    rw [Ideal.ofBits_zero_f32, zero_add]
  · exact broadcastTo_1b_ab_apply b _ _ q

/-- The two layers' projections are one expression of their inputs. -/
theorem addG0_matG0 (x : Vec Ideal KernelIdeal.S16x16x512 .f32) (w : Vec Ideal S512x2048 .bf16) (b : Vec Ideal S1x2048 .f32) :
    addG0 (matG0 x w) b = preG1 (F := Ideal) (truncf (F := Ideal) .bf16 (shapeCast KernelIdeal.S256x512 (shapeCast KernelIdeal.S16x16x512 x KernelIdeal.Gen.shapeCasts_S16x16x512_S16x16x512) KernelIdeal.Gen.shapeCasts_S16x16x512_S256x512) KernelIdeal.Gen.bitsLt_bf16_f32) w b := rfl

theorem merge_apply (x : Vec Ideal KernelIdeal.S16x16x512 .f32) (h : KernelIdeal.S16x16x512.ShapeCasts KernelIdeal.S256x512) (k r : Fin 16) (l : Fin 512) :
    shapeCast KernelIdeal.S256x512 x h (ix2 ⟨16 * k.val + r.val, by have := k.isLt; have := r.isLt; omega⟩ l) = x (ix3 k r l) :=
  shapeCast_apply x h _ _ (by
    rw [Shape.rowMajor_val_three, Shape.rowMajor_val_two]
    show (k.val * 16 + r.val) * 512 + l.val = (16 * k.val + r.val) * 512 + l.val
    omega)

theorem G0_apply (I : Ins Ideal) (n : ℕ) (r : Fin 16) (q : Fin 2048) :
    G0 I n (ix2 r q) = (∑ l : Fin 512, I.xb (n / 16) (ix3 (kf n) r l) * I.wi0 (ix2 l q)) + I.b0 (ix2 0 q) := by
  unfold G0
  rw [addG0_matG0, chunk_apply]
  refine congrArg (· + I.b0 (ix2 0 q)) (Finset.sum_congr rfl fun l _ => congrArg (· * I.wi0 (ix2 l q)) ?_)
  rw [truncf_apply, shapeCast_self]
  exact merge_apply _ _ (kf n) r l

theorem HS_apply (I : Ins Ideal) (n : ℕ) (r : Fin 16) (l : Fin 512) :
    HS I (n / 16) (ix2 ⟨16 * (kf n).val + r.val, by have := (kf n).isLt; have := r.isLt; omega⟩ l) = (S0 I (n + 1)).1 (ix2 r l) := by
  have hr := r.isLt
  have e1 : 16 * (n / 16) + (16 * (n % 16) + r.val) / 16 + 1 = n + 1 := by omega
  have e2 : (16 * (n % 16) + r.val) % 16 = r.val := by omega
  show packH (S0 I (16 * (n / 16) + (16 * (n % 16) + r.val) / 16 + 1)).1 (ix2 ⟨(16 * (n % 16) + r.val) % 16, _⟩ l) = _
  rw [e1]
  unfold packH
  rw [shapeCast_self]
  generalize (S0 I (n + 1)).1 = S
  exact congrArg S (congrArg (fun a => ix2 a l) (Fin.ext e2))

theorem G1_apply (I : Ins Ideal) (n : ℕ) (r : Fin 16) (q : Fin 2048) :
    G1 I n (ix2 r q) = (∑ l : Fin 512, (S0 I (n + 1)).1 (ix2 r l) * I.wi1 (ix2 l q)) + I.b1 (ix2 0 q) := by
  unfold G1
  rw [chunk_apply]
  exact congrArg (· + I.b1 (ix2 0 q)) (Finset.sum_congr rfl fun l _ => congrArg (· * I.wi1 (ix2 l q)) (HS_apply I n r l))

/-! ## The reference's step in its layers -/

/-- A layer's state in the packed pair. -/
def part (v : FVec Ideal S2x16x512 .f32) (a : Fin 2) : FVec Ideal S16x512 .f32 := fun y => v (ix3 a (y 0) (y 1))

theorem part_slice (v : FVec Ideal S2x16x512 .f32) (a : Fin 2) (h : S2x16x512.Slices ![a.val, 0, 0] S1x16x512) :
    shapeCast S16x512 (extractStridedSlice S1x16x512 ![a.val, 0, 0] v h) shapeCasts_S1x16x512_S16x512 = part v a := by
  refine ext16 fun r k => ?_
  refine (shapeCast_1ab_ab_apply _ _ r k).trans ?_
  refine extractStridedSlice_apply _ _ _ _ (ix3 a r k) fun x => ?_
  match x with
  | ⟨0, _⟩ => rfl
  | ⟨1, _⟩ => exact (Nat.zero_add _).symm
  | ⟨2, _⟩ => exact (Nat.zero_add _).symm

theorem part_pair (f g : FVec Ideal S16x512 .f32) :
    part (concatenate S2x16x512 0 [⟨S1x16x512, broadcastInDim S1x16x512 ![1, 2] bcast_S16x512_S1x16x512_1_2 f⟩, ⟨S1x16x512, broadcastInDim S1x16x512 ![1, 2] bcast_S16x512_S1x16x512_1_2 g⟩] concatenates_S1x16x512_S1x16x512_S2x16x512_d0) 0 = f
    ∧ part (concatenate S2x16x512 0 [⟨S1x16x512, broadcastInDim S1x16x512 ![1, 2] bcast_S16x512_S1x16x512_1_2 f⟩, ⟨S1x16x512, broadcastInDim S1x16x512 ![1, 2] bcast_S16x512_S1x16x512_1_2 g⟩] concatenates_S1x16x512_S1x16x512_S2x16x512_d0) 1 = g := by
  refine ⟨ext16 fun r k => ?_, ext16 fun r k => ?_⟩
  · show f _ = f _
    refine congrArg f (funext fun x => ?_)
    match x with
    | ⟨0, _⟩ => rfl
    | ⟨1, _⟩ => rfl
  · show g _ = g _
    refine congrArg g (funext fun x => ?_)
    match x with
    | ⟨0, _⟩ => rfl
    | ⟨1, _⟩ => rfl

variable (j : ℕ) (s : State Ideal)

theorem row_x (hj : j < 512) (r : Fin 16) (k : Fin 512) : b3 j s (ix2 r k) = s.main_v8_0 (ix3 ⟨j, hj⟩ r k) := by
  unfold b3
  refine (shapeCast_1ab_ab_apply _ _ r k).trans ?_
  unfold b2
  have hs : S512x16x512.Slices ![j, 0, 0] S1x16x512 := ⟨rfl, fun a => by
    match a with
    | ⟨0, _⟩ => show j + 1 ≤ 512; omega
    | ⟨1, _⟩ => show 0 + 16 ≤ 16; omega
    | ⟨2, _⟩ => show 0 + 512 ≤ 512; omega⟩
  refine (congrFun (WordCmp.dynamicSlice_eq_extract _ _ _ _ ![j, 0, 0] hs fun a => ?_) _).trans ?_
  · match a with
    | ⟨0, _⟩ => exact toInt_ofNat_of_lt (by omega)
    | ⟨1, _⟩ => rfl
    | ⟨2, _⟩ => rfl
  refine extractStridedSlice_apply _ _ _ _ _ fun x => ?_
  match x with
  | ⟨0, _⟩ => rfl
  | ⟨1, _⟩ => exact (Nat.zero_add _).symm
  | ⟨2, _⟩ => exact (Nat.zero_add _).symm

theorem row_mask (hj : j < 512) (r : Fin 16) : b7 j s (ix2 r 0) = s.main_v8_1 (ix3 ⟨j, hj⟩ r 0) := by
  unfold b7
  refine (shapeCast_1ab_ab_apply _ _ r 0).trans ?_
  unfold b6
  have hs : S512x16x1.Slices ![j, 0, 0] S1x16x1 := ⟨rfl, fun a => by
    match a with
    | ⟨0, _⟩ => show j + 1 ≤ 512; omega
    | ⟨1, _⟩ => show 0 + 16 ≤ 16; omega
    | ⟨2, _⟩ => show 0 + 1 ≤ 1; omega⟩
  refine (congrFun (WordCmp.dynamicSlice_eq_extract _ _ _ _ ![j, 0, 0] hs fun a => ?_) _).trans ?_
  · match a with
    | ⟨0, _⟩ => exact toInt_ofNat_of_lt (by omega)
    | ⟨1, _⟩ => rfl
    | ⟨2, _⟩ => rfl
  refine extractStridedSlice_apply _ _ _ _ _ fun x => ?_
  match x with
  | ⟨0, _⟩ => rfl
  | ⟨1, _⟩ => exact (Nat.zero_add _).symm
  | ⟨2, _⟩ => rfl

theorem spread_mask (r : Fin 16) (k : Fin 512) : b10 j s (ix2 r k) = b7 j s (ix2 r 0) := by
  unfold b10
  refine congrArg (b7 j s) (funext fun x => ?_)
  match x with
  | ⟨0, _⟩ => rfl
  | ⟨1, _⟩ => rfl

theorem out_row (hj : j < 512) (t : Fin 512) (r : Fin 16) (k : Fin 512) :
    b123 j s (ix3 t r k) = if t.val = j then b113 j s (ix2 r k) else s.main_v8_13 (ix3 t r k) := by
  have ht := t.isLt
  have hr := r.isLt
  have hk := k.isLt
  unfold b123
  have hs : S512x16x512.Slices ![j, 0, 0] S1x16x512 := ⟨rfl, fun a => by
    match a with
    | ⟨0, _⟩ => show j + 1 ≤ 512; omega
    | ⟨1, _⟩ => show 0 + 16 ≤ 16; omega
    | ⟨2, _⟩ => show 0 + 512 ≤ 512; omega⟩
  refine (congrFun (WordCmp.dynamicUpdateSlice_eq_update _ _ _ _ ![j, 0, 0] hs fun a => ?_) _).trans ?_
  · match a with
    | ⟨0, _⟩ => exact toInt_ofNat_of_lt (by omega)
    | ⟨1, _⟩ => rfl
    | ⟨2, _⟩ => rfl
  unfold updateSlice
  by_cases e : t.val = j
  · rw [if_pos e, dif_pos (by
      intro a
      match a with
      | ⟨0, _⟩ => show j ≤ t.val ∧ t.val < j + 1; omega
      | ⟨1, _⟩ => show 0 ≤ r.val ∧ r.val < 0 + 16; omega
      | ⟨2, _⟩ => show 0 ≤ k.val ∧ k.val < 0 + 512; omega)]
    unfold b120
    refine congrArg (b113 j s) (funext fun x => ?_)
    match x with
    | ⟨0, _⟩ => rfl
    | ⟨1, _⟩ => rfl
  · rw [if_neg e, dif_neg (by
      intro h
      have h0 : j ≤ t.val ∧ t.val < j + 1 := h 0
      omega)]

theorem h0_eq : b9 j s = part s.main_v8_11 0 := part_slice s.main_v8_11 0 _
theorem c0_eq : b13 j s = part s.main_v8_12 0 := part_slice s.main_v8_12 0 _
theorem h1_eq : b62 j s = part s.main_v8_11 1 := part_slice s.main_v8_11 1 _
theorem c1_eq : b66 j s = part s.main_v8_12 1 := part_slice s.main_v8_12 1 _

theorem gates0 : b26 j s = refGates (b3 j s) (mulf (b9 j s) (b10 j s)) s.main_v8_2 s.main_v8_4 s.main_v8_3 s.main_v8_5 := rfl
theorem cell0 : b58 j s = refCell (b26 j s) (mulf (b13 j s) (b10 j s)) := rfl
theorem hid0 : b60 j s = refHid (b26 j s) (b58 j s) := rfl
theorem gates1 : b79 j s = refGates (b60 j s) (mulf (b62 j s) (b10 j s)) s.main_v8_6 s.main_v8_8 s.main_v8_7 s.main_v8_9 := rfl
theorem cell1 : b111 j s = refCell (b79 j s) (mulf (b66 j s) (b10 j s)) := rfl
theorem hid1 : b113 j s = refHid (b79 j s) (b111 j s) := rfl

/-! ## One step of both -/

/-- The arrays the reference's steps read are the ones the kernel's do. -/
structure Agree (I : Ins Ideal) (s : State Ideal) : Prop where
  x : ∀ (t : Fin 512) (r : Fin 16) (k : Fin 512), s.main_v8_0 (ix3 t r k) = I.xb (t.val / 16) (ix3 (kf t.val) r k)
  msk : ∀ (t : Fin 512) (r : Fin 16), s.main_v8_1 (ix3 t r 0) = I.msk (ix3 ⟨t.val % 520, Nat.mod_lt _ (by omega)⟩ r 0)
  wi0 : ∀ k q, I.wi0 (ix2 k q) = s.main_v8_2 (ix2 q k)
  wh0 : ∀ k q, I.wh0 (ix2 k q) = s.main_v8_4 (ix2 q k)
  b0 : ∀ q, I.b0 (ix2 0 q) = s.main_v8_3 (ix1 q) + s.main_v8_5 (ix1 q)
  wi1 : ∀ k q, I.wi1 (ix2 k q) = s.main_v8_6 (ix2 q k)
  wh1 : ∀ k q, I.wh1 (ix2 k q) = s.main_v8_8 (ix2 q k)
  b1 : ∀ q, I.b1 (ix2 0 q) = s.main_v8_7 (ix1 q) + s.main_v8_9 (ix1 q)

theorem Agree.step {I : Ins Ideal} {s : State Ideal} (A : Agree I s) (n : ℕ) : Agree I (Step.step n s) :=
  ⟨A.x, A.msk, A.wi0, A.wh0, A.b0, A.wi1, A.wh1, A.b1⟩

/-- The reference's state after `n` steps, in the kernel's recurrences. -/
structure At (I : Ins Ideal) (n : ℕ) (s : State Ideal) : Prop where
  agree : Agree I s
  h0 : part s.main_v8_11 0 = (S0 I n).1
  h1 : part s.main_v8_11 1 = (S1 I n).1
  c0 : part s.main_v8_12 0 = (S0 I n).2
  c1 : part s.main_v8_12 1 = (S1 I n).2
  ys : ∀ (t : Fin 512) (r : Fin 16) (k : Fin 512), t.val < n → s.main_v8_13 (ix3 t r k) = (S1 I (t.val + 1)).1 (ix2 r k)

/-- A layer's step is the reference's. -/
theorem lay_step (G : ℕ → FVec Ideal S16x2048 .f32) (M : Vec Ideal KernelIdeal.S520x16x128 .f32) (wI wH : Vec Ideal S512x2048 .bf16) (b : Vec Ideal S1x2048 .f32)
    (h0 c0 : FVec Ideal S16x512 .f32) (n : ℕ) (x mk : FVec Ideal S16x512 .f32) (wi wh : FVec Ideal S2048x512 .f32) (bi bh : FVec Ideal S2048 .f32)
    (hG : ∀ r q, G n (ix2 r q) = (∑ k : Fin 512, x (ix2 r k) * wI (ix2 k q)) + b (ix2 0 q))
    (hM : mrow (rowM M n) = mk) (hI : ∀ k q, wI (ix2 k q) = wi (ix2 q k)) (hH : ∀ k q, wH (ix2 k q) = wh (ix2 q k))
    (hb : ∀ q, b (ix2 0 q) = bi (ix1 q) + bh (ix1 q)) :
    let g := refGates x (mulf (lay G M wH h0 c0 n).1 mk) wi wh bi bh
    let c := refCell g (mulf (lay G M wH h0 c0 n).2 mk)
    lay G M wH h0 c0 (n + 1) = (refHid g c, c) := by
  intro g c
  have hg : addf (G n) (proj (lay G M wH h0 c0 n).1 (rowM M n) wH) = g :=
    gates_eq (G n) _ _ wI wH b x _ wi wh bi bh hG (by rw [hM]) hI hH hb
  have hc : cellC g (mulf (lay G M wH h0 c0 n).2 mk) = c := (refCell_eq _ _).symm
  rw [refHid_eq, ← hc, ← hg, ← hM]
  rfl

theorem mask_eq {I : Ins Ideal} {s : State Ideal} (A : Agree I s) {n : ℕ} (hn : n < 512) : mrow (rowM I.msk n) = b10 n s := by
  refine ext16 fun r k => ?_
  rw [mrow_apply, spread_mask, row_mask n s hn, A.msk ⟨n, hn⟩ r]
  rfl

theorem step0 {I : Ins Ideal} {s : State Ideal} {n : ℕ} (H : At I n s) (hn : n < 512) : S0 I (n + 1) = (b60 n s, b58 n s) := by
  rw [hid0, cell0, gates0, h0_eq, c0_eq, H.h0, H.c0]
  unfold S0
  refine lay_step (G0 I) I.msk I.wi0 I.wh0 I.b0 _ _ n (b3 n s) (b10 n s) _ _ _ _ (fun r q => ?_) (mask_eq H.agree hn) H.agree.wi0 H.agree.wh0 H.agree.b0
  refine (G0_apply I n r q).trans ?_
  refine congrArg (· + I.b0 (ix2 0 q)) (Finset.sum_congr rfl fun l _ => congrArg (· * I.wi0 (ix2 l q)) ?_)
  rw [row_x n s hn]
  exact (H.agree.x ⟨n, hn⟩ r l).symm

theorem step1 {I : Ins Ideal} {s : State Ideal} {n : ℕ} (H : At I n s) (hn : n < 512) : S1 I (n + 1) = (b113 n s, b111 n s) := by
  rw [hid1, cell1, gates1, h1_eq, c1_eq, H.h1, H.c1]
  unfold S1
  refine lay_step (G1 I) I.msk I.wi1 I.wh1 I.b1 _ _ n (b60 n s) (b10 n s) _ _ _ _ (fun r q => ?_) (mask_eq H.agree hn) H.agree.wi1 H.agree.wh1 H.agree.b1
  refine (G1_apply I n r q).trans ?_
  rw [step0 H hn]

theorem At.next {I : Ins Ideal} {s : State Ideal} {n : ℕ} (H : At I n s) (hn : n < 512) : At I (n + 1) (Step.step n s) where
  agree := H.agree.step n
  h0 := by rw [step0 H hn, step_main_v8_11]; exact (part_pair (b60 n s) (b113 n s)).1
  h1 := by rw [step1 H hn, step_main_v8_11]; exact (part_pair (b60 n s) (b113 n s)).2
  c0 := by rw [step0 H hn, step_main_v8_12]; exact (part_pair (b58 n s) (b111 n s)).1
  c1 := by rw [step1 H hn, step_main_v8_12]; exact (part_pair (b58 n s) (b111 n s)).2
  ys t r k ht := by
    rw [step_main_v8_13, out_row n s hn]
    by_cases e : t.val = n
    · rw [if_pos e, e, step1 H hn]
    · rw [if_neg e]
      exact H.ys t r k (by omega)

theorem at_states {I : Ins Ideal} {s : State Ideal} (H : At I 0 s) : ∀ n, n ≤ 512 → At I n (states s n)
  | 0, _ => H
  | n + 1, hn => (at_states H n (by omega)).next (by omega)

/-! ## The results -/

/-- The packed result's rows: the hidden states and then the cell states. -/
theorem fin_rows (s : State Ideal) (a : Fin 2) (r : Fin 16) (k : Fin 512) :
    R_main_v9 s (ix3 ⟨a.val, by have := a.isLt; omega⟩ r k) = part s.main_v8_11 a (ix2 r k)
    ∧ R_main_v9 s (ix3 ⟨2 + a.val, by have := a.isLt; omega⟩ r k) = part s.main_v8_12 a (ix2 r k) := by
  match a with
  | ⟨0, _⟩ =>
    exact ⟨congrArg s.main_v8_11 (funext fun x => match x with | ⟨0, _⟩ => rfl | ⟨1, _⟩ => rfl | ⟨2, _⟩ => rfl),
      congrArg s.main_v8_12 (funext fun x => match x with | ⟨0, _⟩ => rfl | ⟨1, _⟩ => rfl | ⟨2, _⟩ => rfl)⟩
  | ⟨1, _⟩ =>
    exact ⟨congrArg s.main_v8_11 (funext fun x => match x with | ⟨0, _⟩ => rfl | ⟨1, _⟩ => rfl | ⟨2, _⟩ => rfl),
      congrArg s.main_v8_12 (funext fun x => match x with | ⟨0, _⟩ => rfl | ⟨1, _⟩ => rfl | ⟨2, _⟩ => rfl)⟩

/-- The last state's rows are the kernel's. -/
theorem fin_eq {I : Ins Ideal} {s : State Ideal} {n : ℕ} (H : At I n s) : R_main_v9 s = FN I n n := by
  funext y
  obtain ⟨a, r, k, rfl⟩ : ∃ (a : Fin 4) (r : Fin 16) (k : Fin 512), y = ix3 a r k := ⟨y 0, y 1, y 2, eq_ix3 y⟩
  show R_main_v9 s (ix3 a r k) = rowQ I n n a (ix2 r k)
  match a with
  | ⟨0, _⟩ => exact (fin_rows s 0 r k).1.trans (congrFun H.h0 (ix2 r k))
  | ⟨1, _⟩ => exact (fin_rows s 1 r k).1.trans (congrFun H.h1 (ix2 r k))
  | ⟨2, _⟩ => exact (fin_rows s 0 r k).2.trans (congrFun H.c0 (ix2 r k))
  | ⟨3, _⟩ => exact (fin_rows s 1 r k).2.trans (congrFun H.c1 (ix2 r k))

/-- The outputs are the kernel's, in its chunks of 16 steps. -/
theorem ys_eq {I : Ins Ideal} {s : State Ideal} (H : At I 512 s) (t : Fin 512) (r : Fin 16) (k : Fin 512) :
    s.main_v8_13 (ix3 t r k) = YS I (t.val / 16) (ix3 ⟨t.val % 16, Nat.mod_lt _ (by omega)⟩ r k) := by
  rw [H.ys t r k t.isLt]
  have e : 16 * (t.val / 16) + t.val % 16 + 1 = t.val + 1 := by omega
  show _ = (S1 I (16 * (t.val / 16) + t.val % 16 + 1)).1 (ix2 r k)
  rw [e]

end Cert.Hand

end
-- ==== Proof.Eq.Host.lean ====
/- What the two programs prepare from the arguments before their loops, and that it agrees. -/
module

public import proofs.«01_k».proof.Proof.Eq.Trip
public import proofs.«01_k».proof.Proof.KI.Out
public import proofs.«01_k».proof.Proof.Gen.Pre_no_wrap
public import Idealize.ShloMosaic.Lib.ReduceAll
public import Idealize.ShloMosaic.Lib.WordArith
public import Idealize.ShloMosaic.Lib.Routing.OpsSet
public import Idealize.ShloMosaic.Lib.Routing.OpsPair

@[expose] public section

noncomputable section

namespace Cert.Hand

open Idealize.ShloMosaic hiding ix0 ix1 ix2 ix3
open Idealize.ShloMosaic.TcCoe Idealize.ShloMosaic.Tactic Idealize.ShloMosaic.ValueIdx
open Cert.KernelIdeal Cert.KernelIdeal.Gen
open Cert.KernelIdeal.Hand (chunk ins S0 S1 kf ysArr FN)

/-! ## The kernel's arrays -/

section Entry

variable (m : (ℓ : Loc nD τ sig) → Buf (Elt Ideal) ℓ) (c : Dev nD)

/-- The masks' rows: one minus each flag. -/
def maskRows (d : Vec Ideal S512x16 .i32) : FVec Ideal S512x16 .f32 :=
  subf (broadcastInDim S512x16 ![] bcast_S_S512x16 (constant S_ .f32 0x3F800000#32)) (sitofp .f32 d)

/-- The rows set into the longer array of zeros. -/
def maskArr (d : Vec Ideal S512x16 .i32) : FVec Ideal S520x16x128 .f32 :=
  Host.scatter scatter_S520x16x128_S1_S512x16x128_012_n_0_0 (fun _ b => b)
    (broadcastInDim S520x16x128 ![] bcast_S_S520x16x128 (constant S_ .f32 0x00000000#32))
    (broadcastInDim S1 ![] bcast_S_S1 (constantI S_ 32 0#32))
    (broadcastInDim S512x16x128 ![0, 1, 2] bcast_S512x16x1_S512x16x128_0_1_2 (broadcastInDim S512x16x1 ![0, 1] bcast_S512x16_S512x16x1_0_1 (maskRows d)))

/-- A weight matrix, transposed. -/
def turned (w : FVec Ideal S2048x512 .f32) : FVec Ideal S512x2048 .bf16 :=
  truncf .bf16 (transpose S512x2048 [1, 0] w transposes_S2048x512_S512x2048_1_0) bitsLt_bf16_f32

/-- Two biases' sum, as a row. -/
def biasRow (a b : FVec Ideal S2048 .f32) : FVec Ideal S1x2048 .f32 := shapeCast S1x2048 (addf a b) shapeCasts_S2048_S1x2048

theorem V_x : V m c main_v0 = shapeCast S512x16x512 (m ((c : Thread nD τ).loc main_arg0)) shapeCasts_S8192x512_S512x16x512 := by
  show StableHlo.after hostOps0 _ (Proc.devRef .tc main_v0) = _
  after_results
  rfl

theorem V_mask : V m c main_v8 = maskArr (m ((c : Thread nD τ).loc main_arg2)) := by
  show StableHlo.after hostOps0 _ (Proc.devRef .tc main_v8) = _
  after_results
  rfl

theorem V_wi0 : V m c main_v10 = turned (m ((c : Thread nD τ).loc main_arg3)) := by
  show StableHlo.after hostOps0 _ (Proc.devRef .tc main_v10) = _
  after_results
  rfl

theorem V_wh0 : V m c main_v12 = turned (m ((c : Thread nD τ).loc main_arg4)) := by
  show StableHlo.after hostOps0 _ (Proc.devRef .tc main_v12) = _
  after_results
  rfl

theorem V_wi1 : V m c main_v14 = turned (m ((c : Thread nD τ).loc main_arg7)) := by
  show StableHlo.after hostOps0 _ (Proc.devRef .tc main_v14) = _
  after_results
  rfl

theorem V_wh1 : V m c main_v16 = turned (m ((c : Thread nD τ).loc main_arg8)) := by
  show StableHlo.after hostOps0 _ (Proc.devRef .tc main_v16) = _
  after_results
  rfl

theorem V_b0 : V m c main_v18 = biasRow (m ((c : Thread nD τ).loc main_arg5)) (m ((c : Thread nD τ).loc main_arg6)) := by
  show StableHlo.after hostOps0 _ (Proc.devRef .tc main_v18) = _
  after_results
  rfl

theorem V_b1 : V m c main_v20 = biasRow (m ((c : Thread nD τ).loc main_arg9)) (m ((c : Thread nD τ).loc main_arg10)) := by
  show StableHlo.after hostOps0 _ (Proc.devRef .tc main_v20) = _
  after_results
  rfl

end Entry

theorem turned_apply (w : FVec Ideal S2048x512 .f32) (k : Fin 512) (q : Fin 2048) : turned w (ix2 k q) = w (ix2 q k) :=
  transpose_ix2_apply w _ k q

theorem biasRow_apply (a b : FVec Ideal S2048 .f32) (q : Fin 2048) : biasRow a b (ix2 0 q) = a (ix1 q) + b (ix1 q) :=
  shapeCast_a_1a_apply (addf a b) _ 0 q

/-- An update's row lands at the same row. -/
theorem lands (k : S512x16x128.Idx) (i : S520x16x128.Idx) :
    scatter_S520x16x128_S1_S512x16x128_012_n_0_0.resultIdx? k (broadcastInDim S1 ![] bcast_S_S1 (constantI S_ 32 0#32)) = some i ↔ ∀ a : Fin 3, (k a).val = (i a).val := by
  rw [Routing.resultIdx?_eq_some]
  have e : ∀ a : Fin 3, scatter_S520x16x128_S1_S512x16x128_012_n_0_0.start k (broadcastInDim S1 ![] bcast_S_S1 (constantI S_ 32 0#32)) a
      + (scatter_S520x16x128_S1_S512x16x128_012_n_0_0.window k a : Int) = ((k a).val : Int) := fun a => by
    match a with
    | ⟨0, _⟩ => exact Int.zero_add _
    | ⟨1, _⟩ => exact Int.zero_add _
    | ⟨2, _⟩ => exact Int.zero_add _
  exact forall_congr' fun a => by rw [e a]; exact Int.ofNat_inj

theorem maskArr_apply (d : Vec Ideal S512x16 .i32) (t : Fin 512) (r : Fin 16) (h : t.val < 520) :
    maskArr d (ix3 ⟨t.val, h⟩ r 0) = maskRows d (ix2 t r) := by
  unfold maskArr
  refine Routing.scatter_set_hit _ _ _ _ _ _ (fun k hk => ?_) (ix3 t r 0) ((lands _ _).2 fun a => by
    match a with
    | ⟨0, _⟩ => rfl
    | ⟨1, _⟩ => rfl
    | ⟨2, _⟩ => rfl)
  have hk := (lands _ _).1 hk
  exact congrArg (maskRows d) (funext fun a => Fin.ext (match a with
    | ⟨0, _⟩ => hk 0
    | ⟨1, _⟩ => hk 1))

/-! ## Where one minus a flag does not wrap around -/

/-- The predicate, at each entry. -/
theorem flags_of_pre {a0 a1 a3 a4 a5 a6 a7 a8 a9 a10} (d : IVec S512x16 32)
    (h : Cert.Pre_no_wrap.fn (F := Ideal) a0 a1 d a3 a4 a5 a6 a7 a8 a9 a10 = fun _ => 1#1) (i : S512x16.Idx) : -2147483647 < (d i).toInt := by
  have h0 := congrFun h ix0
  have : Subsingleton Cert.Pre_no_wrap.S_.Idx := ⟨fun a b => (eq_ix0 a).trans (eq_ix0 b).symm⟩
  have h1 := Host.reduce_andi_all _ _ _ _ _ h0 i
  have h2 : IntOp.cmpi .sgt (d i) 2147483649#32 = 1#1 := h1
  simp only [IntOp.cmpi, WordArith.ofBool_eq_one_iff, BitVec.slt_iff_toInt_lt] at h2
  have e : (2147483649#32).toInt = -2147483647 := by decide
  rwa [e] at h2

/-- There, subtracting before and after the conversion is the same. -/
theorem mask_flag (x : BitVec 32) (h : -2147483647 < x.toInt) :
    (Scalar.sitofp .f32 (IntOp.subi 1#32 x) : Ideal .f32) = (1 : EReal) - (Scalar.sitofp .f32 x : Ideal .f32) := by
  have hx := BitVec.toInt_le (x := x)
  have e1 : (1#32).toInt = 1 := by decide
  have e : (IntOp.subi 1#32 x).toInt = 1 - x.toInt := by
    show (1#32 - x).toInt = _
    rw [WordArith.toInt_sub_of_bounds _ _ (by omega) (by omega), e1]
  rw [Ideal.scalar_sitofp_def, Ideal.scalar_sitofp_def, e]
  push_cast
  rfl

theorem mask_rows_eq (d : Vec Ideal S512x16 .i32) (h : ∀ i, -2147483647 < (d i).toInt) (i : S512x16.Idx) :
    sitofp (F := Ideal) .f32 (subi (broadcastInDim S512x16 ![] bcast_S_S512x16 (constantI S_ 32 1#32)) d) i = maskRows d i := by
  refine (mask_flag (d i) (h i)).trans ?_
  unfold maskRows
  rw [subf_apply]
  exact congrArg (· - (Scalar.sitofp .f32 (d i) : Ideal .f32)) one_f32.symm

/-! ## Both programs' starts -/

section Start

variable (m : (ℓ : Loc nD τ sig) → Buf (Elt Ideal) ℓ) (c : Dev nD)

/-- The reference's first state, of the kernel's arguments. -/
def start : ReferenceIdeal.Step.State Ideal :=
  ReferenceIdeal.Step.init (m ((c : Thread nD τ).loc main_arg3)) (m ((c : Thread nD τ).loc main_arg5)) (m ((c : Thread nD τ).loc main_arg4))
    (m ((c : Thread nD τ).loc main_arg6)) (m ((c : Thread nD τ).loc main_arg7)) (m ((c : Thread nD τ).loc main_arg9)) (m ((c : Thread nD τ).loc main_arg8))
    (m ((c : Thread nD τ).loc main_arg10)) (m ((c : Thread nD τ).loc main_arg0)) (m ((c : Thread nD τ).loc main_arg1)) (m ((c : Thread nD τ).loc main_arg2))

theorem chunk_at (X : Vec Ideal S512x16x512 .f32) (t : Fin 512) (r : Fin 16) (k : Fin 512) : chunk X (t.val / 16) (ix3 (kf t.val) r k) = X (ix3 t r k) := by
  have ht := t.isLt
  exact congrArg (fun a => X (ix3 a r k)) (Fin.ext (show (16 * (t.val / 16) + t.val % 16) % 512 = t.val by omega))

theorem column_apply (x : FVec Ideal S512x16 .f32) (t : Fin 512) (r : Fin 16) :
    broadcastInDim ReferenceIdeal.S512x16x1 ![0, 1] ReferenceIdeal.Gen.bcast_S512x16_S512x16x1_0_1 x (ix3 t r 0) = x (ix2 t r) := by
  refine congrArg x (funext fun a => ?_)
  match a with
  | ⟨0, _⟩ => rfl
  | ⟨1, _⟩ => rfl

theorem ins_msk : (ins m c).msk = V m c main_v8 := by
  simp only [ins]

/-- The reference's mask is the kernel's. -/
theorem mask_start (d : Vec Ideal S512x16 .i32) (h : ∀ i, -2147483647 < (d i).toInt) (t : Fin 512) (r : Fin 16) :
    broadcastInDim ReferenceIdeal.S512x16x1 ![0, 1] ReferenceIdeal.Gen.bcast_S512x16_S512x16x1_0_1
      (sitofp (F := Ideal) .f32 (subi (broadcastInDim S512x16 ![] bcast_S_S512x16 (constantI S_ 32 1#32)) d)) (ix3 t r 0) = maskRows d (ix2 t r) := by
  rw [column_apply]
  exact mask_rows_eq d h (ix2 t r)

theorem agree_start (h : ∀ i, -2147483647 < (m ((c : Thread nD τ).loc main_arg2) i).toInt) : Agree (ins m c) (start m c) where
  x t r k := by
    have e : (start m c).main_v8_0 = V m c main_v0 := (V_x m c).symm
    exact (congrFun e (ix3 t r k)).trans (chunk_at (V m c main_v0) t r k).symm
  msk t r := by
    have ht := t.isLt
    have e : (⟨t.val % 520, Nat.mod_lt _ (by omega)⟩ : Fin 520) = ⟨t.val, by omega⟩ := Fin.ext (Nat.mod_eq_of_lt (by omega))
    have hm : (ins m c).msk = maskArr (m ((c : Thread nD τ).loc main_arg2)) := (ins_msk m c).trans (V_mask m c)
    rw [e, hm, maskArr_apply]
    exact mask_start _ h t r
  wi0 k q := by
    show V m c main_v10 (ix2 k q) = _
    rw [V_wi0, turned_apply]
    rfl
  wh0 k q := by
    show V m c main_v12 (ix2 k q) = _
    rw [V_wh0, turned_apply]
    rfl
  b0 q := by
    show V m c main_v18 (ix2 0 q) = _
    rw [V_b0, biasRow_apply]
    rfl
  wi1 k q := by
    show V m c main_v14 (ix2 k q) = _
    rw [V_wi1, turned_apply]
    rfl
  wh1 k q := by
    show V m c main_v16 (ix2 k q) = _
    rw [V_wh1, turned_apply]
    rfl
  b1 q := by
    show V m c main_v20 (ix2 0 q) = _
    rw [V_b1, biasRow_apply]
    rfl

/-- A slice of two rows of the four, at one of them. -/
theorem part_rows (S : FVec Ideal S4x16x512 .f32) (o : Fin 3) (a : Fin 2) (b : Fin 4) (hs : S4x16x512.Slices ![o.val, 0, 0] ReferenceIdeal.S2x16x512) (hb : b.val = o.val + a.val) :
    part (extractStridedSlice ReferenceIdeal.S2x16x512 ![o.val, 0, 0] S hs) a = KernelIdeal.Hand.unF (KernelIdeal.Hand.rowF S b) := by
  refine ext16 fun r k => ?_
  rw [KernelIdeal.Hand.unF_rowF]
  refine extractStridedSlice_apply _ _ _ _ (ix3 b r k) fun x => ?_
  match x with
  | ⟨0, _⟩ => exact hb
  | ⟨1, _⟩ => exact (Nat.zero_add _).symm
  | ⟨2, _⟩ => exact (Nat.zero_add _).symm

theorem at_start (h : ∀ i, -2147483647 < (m ((c : Thread nD τ).loc main_arg2) i).toInt) : At (ins m c) 0 (start m c) where
  agree := agree_start m c h
  h0 := by
    show part (extractStridedSlice ReferenceIdeal.S2x16x512 ![0, 0, 0] (m ((c : Thread nD τ).loc main_arg1)) ReferenceIdeal.Gen.slices_S4x16x512_S2x16x512_0_0_0) 0 = KernelIdeal.Hand.unF (KernelIdeal.Hand.rowF (V m c main_arg1) 0)
    rw [V_main_arg1]
    exact part_rows _ 0 0 0 _ rfl
  h1 := by
    show part (extractStridedSlice ReferenceIdeal.S2x16x512 ![0, 0, 0] (m ((c : Thread nD τ).loc main_arg1)) ReferenceIdeal.Gen.slices_S4x16x512_S2x16x512_0_0_0) 1 = KernelIdeal.Hand.unF (KernelIdeal.Hand.rowF (V m c main_arg1) 1)
    rw [V_main_arg1]
    exact part_rows _ 0 1 1 _ rfl
  c0 := by
    show part (extractStridedSlice ReferenceIdeal.S2x16x512 ![2, 0, 0] (m ((c : Thread nD τ).loc main_arg1)) ReferenceIdeal.Gen.slices_S4x16x512_S2x16x512_2_0_0) 0 = KernelIdeal.Hand.unF (KernelIdeal.Hand.rowF (V m c main_arg1) 2)
    rw [V_main_arg1]
    exact part_rows _ 2 0 2 _ rfl
  c1 := by
    show part (extractStridedSlice ReferenceIdeal.S2x16x512 ![2, 0, 0] (m ((c : Thread nD τ).loc main_arg1)) ReferenceIdeal.Gen.slices_S4x16x512_S2x16x512_2_0_0) 1 = KernelIdeal.Hand.unF (KernelIdeal.Hand.rowF (V m c main_arg1) 3)
    rw [V_main_arg1]
    exact part_rows _ 2 1 3 _ rfl
  ys t r k ht := absurd ht (Nat.not_lt_zero _)

/-- The reference's outputs are the kernel's. -/
theorem outputs_eq (h : ∀ i, -2147483647 < (m ((c : Thread nD τ).loc main_arg2) i).toInt) :
    (ReferenceIdeal.Hand.states (start m c) 512).main_v8_13 = ysArr (ins m c)
    ∧ ReferenceIdeal.Step.R_main_v9 (ReferenceIdeal.Hand.states (start m c) 512) = FN (ins m c) 512 512 := by
  have H := at_states (at_start m c h) 512 le_rfl
  generalize ReferenceIdeal.Hand.states (start m c) 512 = s at H ⊢
  refine ⟨funext fun z => ?_, fin_eq H⟩
  obtain ⟨t, r, k, rfl⟩ : ∃ (t : Fin 512) (r : Fin 16) (k : Fin 512), z = ix3 t r k := ⟨z 0, z 1, z 2, ValueIdx.eq_ix3 z⟩
  exact ys_eq H t r k

end Start

end Cert.Hand

end
-- ==== Proof.Eq.Algebraic.lean ====
/- The kernel's results are the reference's. -/
module

public import proofs.«01_k».proof.Proof.Eq.Host

@[expose] public section

noncomputable section

namespace Cert.Hand

open Idealize.ShloMosaic Idealize.SL.Sem

theorem algebraic : Cert.algebraic_KernelIdeal_ReferenceIdeal_pre_no_wrap := by
  intro m g m' g' hpre hargs
  refine ⟨fun c => KernelIdeal.Hand.ysArr (KernelIdeal.Hand.ins m c), fun c => KernelIdeal.Hand.FN (KernelIdeal.Hand.ins m c) 512 512,
    KernelIdeal.Hand.value_run m g, (θ_run _ _ _).mono (fun r h c => ?_) (ReferenceIdeal.Hand.value_run m' g')⟩
  obtain ⟨e0, e1, e2, e3, e4, e5, e6, e7, e8, e9, e10⟩ := hargs c
  have hs : ReferenceIdeal.Trips.initState m' c = start m c := by
    unfold ReferenceIdeal.Trips.initState start
    rw [e0, e1, e2, e3, e4, e5, e6, e7, e8, e9, e10]
  obtain ⟨h0, h1, hrest⟩ := h c
  have H := outputs_eq m c (flags_of_pre _ (hpre c))
  rw [← hs] at H
  exact ⟨h0.trans H.1, h1.trans H.2, hrest⟩

end Cert.Hand

end
-- ==== Proof.lean ====
/- The proof of the certificate's claims. -/
module

public import proofs.«01_k».proof.Defs
public import proofs.«01_k».proof.Proof.K.Same
public import proofs.«01_k».proof.Proof.RI.Value
public import proofs.«01_k».proof.Proof.Eq.Algebraic
public import proofs.«01_k».proof.Proof.Gen.ReferenceIdeal.Step
public import proofs.«01_k».proof.Proof.Gen.Pre_no_wrap

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_no_wrap.Gen.facts,
    Cert.Hand.quiescent_bits, Cert.Hand.quiescent_ideal, Cert.Hand.quiescent_ideal_pre, Cert.ReferenceIdeal.Hand.quiescent,
    Cert.ReferenceIdeal.Hand.quiescent_pre, trivial, Cert.Hand.algebraic⟩

end Cert.Proof

end
